-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt2" .bf16 0x3F35#16 (((Real.sqrt 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256x64x2048 : Shape := ⟨3, ![256, 64, 2048]⟩
abbrev S1x64x1 : Shape := ⟨3, ![1, 64, 1]⟩
abbrev S64x64 : Shape := ⟨2, ![64, 64]⟩
abbrev S64 : Shape := ⟨1, ![64]⟩
abbrev S256x96 : Shape := ⟨2, ![256, 96]⟩
abbrev S256 : Shape := ⟨1, ![256]⟩
abbrev S64x256 : Shape := ⟨2, ![64, 256]⟩
abbrev S_ : Shape := ⟨0, ![]⟩

class Facts : Prop where
  bcast_S_S256x64x2048 : S_.BroadcastsInDim S256x64x2048 (![] : Fin 0 → Fin S256x64x2048.rank)
  bcast_S_S1x64x1 : S_.BroadcastsInDim S1x64x1 (![] : Fin 0 → Fin S1x64x1.rank)
  bcast_S_S64x64 : S_.BroadcastsInDim S64x64 (![] : Fin 0 → Fin S64x64.rank)
  bcast_S_S64 : S_.BroadcastsInDim S64 (![] : Fin 0 → Fin S64.rank)
  bcast_S_S256x96 : S_.BroadcastsInDim S256x96 (![] : Fin 0 → Fin S256x96.rank)
  bcast_S_S256 : S_.BroadcastsInDim S256 (![] : Fin 0 → Fin S256.rank)

variable [Facts]

def fn_part1 {F : FTy → Type} [FloatOps F] (main_arg6 : FVec F S64 .f32) (main_arg7 : FVec F S64x64 .f32) (main_arg8 : FVec F S64 .f32) (main_arg9 : FVec F S256x96 .f32) (main_arg10 : FVec F S256 .f32) (main_v2 : IVec S256x64x2048 1) (main_v5 : IVec S256x64x2048 1) (main_v8 : IVec S1x64x1 1) (main_v11 : IVec S1x64x1 1) (main_v14 : IVec S64x64 1) (main_v17 : IVec S64x64 1) : IVec S256x64x2048 1 × IVec S256x64x2048 1 × IVec S1x64x1 1 × IVec S1x64x1 1 × IVec S64x64 1 × IVec S64x64 1 × IVec S64 1 × IVec S64x64 1 × IVec S64 1 × IVec S256x96 1 × IVec S256 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S64x64 .f32 := Host.absf main_arg7
  let main_cst_6 : FVec F S_ .f32 := constant S_ .f32 0x7F800000#32
  let main_v22 : FVec F S64x64 .f32 := broadcastInDim S64x64 ![] bcast_S_S64x64 main_cst_6
  let main_v23 : IVec S64x64 1 := cmpf .olt main_v21 main_v22
  let main_v24 : FVec F S64 .f32 := Host.absf main_arg8
  let main_cst_7 : FVec F S_ .f32 := constant S_ .f32 0x7F800000#32
  let main_v25 : FVec F S64 .f32 := broadcastInDim S64 ![] bcast_S_S64 main_cst_7
  let main_v26 : IVec S64 1 := cmpf .olt main_v24 main_v25
  let main_v27 : FVec F S256x96 .f32 := Host.absf main_arg9
  let main_cst_8 : FVec F S_ .f32 := constant S_ .f32 0x7F800000#32
  let main_v28 : FVec F S256x96 .f32 := broadcastInDim S256x96 ![] bcast_S_S256x96 main_cst_8
  let main_v29 : IVec S256x96 1 := cmpf .olt main_v27 main_v28
  let main_v30 : FVec F S256 .f32 := Host.absf main_arg10
  let main_cst_9 : FVec F S_ .f32 := constant S_ .f32 0x7F800000#32
  let main_v31 : FVec F S256 .f32 := broadcastInDim S256 ![] bcast_S_S256 main_cst_9
  let main_v32 : IVec S256 1 := cmpf .olt main_v30 main_v31
  (main_v2, main_v5, main_v8, main_v11, main_v14, main_v17, main_v20, main_v23, main_v26, main_v29, main_v32)

def fn {F : FTy → Type} [FloatOps F] (main_arg0 : FVec F S256x64x2048 .f32) (main_arg1 : FVec F S256x64x2048 .f32) (main_arg2 : FVec F S1x64x1 .f32) (main_arg3 : FVec F S1x64x1 .f32) (main_arg4 : FVec F S64x64 .f32) (main_arg5 : FVec F S64x64 .f32) (main_arg6 : FVec F S64 .f32) (main_arg7 : FVec F S64x64 .f32) (main_arg8 : FVec F S64 .f32) (main_arg9 : FVec F S256x96 .f32) (main_arg10 : FVec F S256 .f32) (main_arg11 : FVec F S64x256 .f32) (main_arg12 : FVec F S64 .f32) : IVec S256x64x2048 1 × IVec S256x64x2048 1 × IVec S1x64x1 1 × IVec S1x64x1 1 × IVec S64x64 1 × IVec S64x64 1 × IVec S64 1 × IVec S64x64 1 × IVec S64 1 × IVec S256x96 1 × IVec S256 1 :=
  let main_v0 : FVec F S256x64x2048 .f32 := Host.absf main_arg0
  let main_cst : FVec F S_ .f32 := constant S_ .f32 0x7F800000#32
  let main_v1 : FVec F S256x64x2048 .f32 := broadcastInDim S256x64x2048 ![] bcast_S_S256x64x2048 main_cst
  let main_v2 : IVec S256x64x2048 1 := cmpf .olt main_v0 main_v1
  let main_v3 : FVec F S256x64x2048 .f32 := Host.absf main_arg1
  let main_cst_0 : FVec F S_ .f32 := constant S_ .f32 0x7F800000#32
  let main_v4 : FVec F S256x64x2048 .f32 := broadcastInDim S256x64x2048 ![] bcast_S_S256x64x2048 main_cst_0
  let main_v5 : IVec S256x64x2048 1 := cmpf .olt main_v3 main_v4
  let main_v6 : FVec F S1x64x1 .f32 := Host.absf main_arg2
  let main_cst_1 : FVec F S_ .f32 := constant S_ .f32 0x7F800000#32
  let main_v7 : FVec F S1x64x1 .f32 := broadcastInDim S1x64x1 ![] bcast_S_S1x64x1 main_cst_1
  let main_v8 : IVec S1x64x1 1 := cmpf .olt main_v6 main_v7
  let main_v9 : FVec F S1x64x1 .f32 := Host.absf main_arg3
  let main_cst_2 : FVec F S_ .f32 := constant S_ .f32 0x7F800000#32
  let main_v10 : FVec F S1x64x1 .f32 := broadcastInDim S1x64x1 ![] bcast_S_S1x64x1 main_cst_2
  let main_v11 : IVec S1x64x1 1 := cmpf .olt main_v9 main_v10
  let main_v12 : FVec F S64x64 .f32 := Host.absf main_arg4
  let main_cst_3 : FVec F S_ .f32 := constant S_ .f32 0x7F800000#32
  let main_v13 : FVec F S64x64 .f32 := broadcastInDim S64x64 ![] bcast_S_S64x64 main_cst_3
  let main_v14 : IVec S64x64 1 := cmpf .olt main_v12 main_v13
  let main_v15 : FVec F S64x64 .f32 := Host.absf main_arg5
  let main_cst_4 : FVec F S_ .f32 := constant S_ .f32 0x7F800000#32
  let main_v16 : FVec F S64x64 .f32 := broadcastInDim S64x64 ![] bcast_S_S64x64 main_cst_4
  let main_v17 : IVec S64x64 1 := cmpf .olt main_v15 main_v16
  fn_part1 (F := F) main_arg6 main_arg7 main_arg8 main_arg9 main_arg10 main_v2 main_v5 main_v8 main_v11 main_v14 main_v17
-- ==== Kernel.lean ====
abbrev S256x64x2048 : Shape := ⟨3, ![256, 64, 2048]⟩
abbrev S1x64x1 : Shape := ⟨3, ![1, 64, 1]⟩
abbrev S64x64 : Shape := ⟨2, ![64, 64]⟩
abbrev S64 : Shape := ⟨1, ![64]⟩
abbrev S256x96 : Shape := ⟨2, ![256, 96]⟩
abbrev S256 : Shape := ⟨1, ![256]⟩
abbrev S64x256 : Shape := ⟨2, ![64, 256]⟩
abbrev S1x64 : Shape := ⟨2, ![1, 64]⟩
abbrev S256x1 : Shape := ⟨2, ![256, 1]⟩
abbrev S320x129 : Shape := ⟨2, ![320, 129]⟩
abbrev S1x1 : Shape := ⟨2, ![1, 1]⟩
abbrev S64x1 : Shape := ⟨2, ![64, 1]⟩
abbrev S256x1x1 : Shape := ⟨3, ![256, 1, 1]⟩
abbrev S256x64 : Shape := ⟨2, ![256, 64]⟩
abbrev S256x32 : Shape := ⟨2, ![256, 32]⟩
abbrev S32x64 : Shape := ⟨2, ![32, 64]⟩
abbrev S32x1 : Shape := ⟨2, ![32, 1]⟩
abbrev S64x129 : Shape := ⟨2, ![64, 129]⟩
abbrev S256x129 : Shape := ⟨2, ![256, 129]⟩
abbrev S1x1x64 : Shape := ⟨3, ![1, 1, 64]⟩
abbrev S1 : Shape := ⟨1, ![1]⟩
abbrev S1x1x1 : Shape := ⟨3, ![1, 1, 1]⟩
abbrev S16x64x2048 : Shape := ⟨3, ![16, 64, 2048]⟩
abbrev S16x1x1 : Shape := ⟨3, ![16, 1, 1]⟩
abbrev S1x2048 : Shape := ⟨2, ![1, 2048]⟩
abbrev S1x64x2048 : Shape := ⟨3, ![1, 64, 2048]⟩
abbrev S64x2048 : Shape := ⟨2, ![64, 2048]⟩
abbrev S129x2048 : Shape := ⟨2, ![129, 2048]⟩
abbrev S320x2048 : Shape := ⟨2, ![320, 2048]⟩
abbrev S32x2048 : Shape := ⟨2, ![32, 2048]⟩
abbrev S256x2048 : Shape := ⟨2, ![256, 2048]⟩
abbrev S1x32x2048 : Shape := ⟨3, ![1, 32, 2048]⟩

abbrev nBuf : Space → Nat
  | .hbm => 26
  | .vmem => 23
  | .smem => 0
  | _ => 0

abbrev bufTy : (tb : Table) → Fin (tcTables nBuf tb) → BufTy
  | .hbm, ⟨0, _⟩ => ⟨S256x64x2048, .f32⟩
  | .hbm, ⟨1, _⟩ => ⟨S256x64x2048, .f32⟩
  | .hbm, ⟨2, _⟩ => ⟨S1x64x1, .f32⟩
  | .hbm, ⟨3, _⟩ => ⟨S1x64x1, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S256x96, .f32⟩
  | .hbm, ⟨10, _⟩ => ⟨S256, .f32⟩
  | .hbm, ⟨11, _⟩ => ⟨S64x256, .f32⟩
  | .hbm, ⟨12, _⟩ => ⟨S64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S256x1, .f32⟩
  | .hbm, ⟨18, _⟩ => ⟨S320x129, .bf16⟩
  | .hbm, ⟨19, _⟩ => ⟨S1x1, .f32⟩
  | .hbm, ⟨20, _⟩ => ⟨S64x256, .bf16⟩
  | .hbm, ⟨21, _⟩ => ⟨S64x1, .f32⟩
  | .hbm, ⟨22, _⟩ => ⟨S64x1, .bf16⟩
  | .hbm, ⟨23, _⟩ => ⟨S256x64x2048, .f32⟩
  | .hbm, ⟨24, _⟩ => ⟨S256x1x1, .f32⟩
  | .hbm, ⟨25, _⟩ => ⟨S256, .f32⟩
  | .local _ .vmem, ⟨0, _⟩ => ⟨S64x64, .f32⟩
  | .local _ .vmem, ⟨1, _⟩ => ⟨S64x64, .f32⟩
  | .local _ .vmem, ⟨2, _⟩ => ⟨S1x64, .f32⟩
  | .local _ .vmem, ⟨3, _⟩ => ⟨S64x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S256x96, .f32⟩
  | .local _ .vmem, ⟨8, _⟩ => ⟨S256x1, .f32⟩
  | .local _ .vmem, ⟨9, _⟩ => ⟨S320x129, .bf16⟩
  | .local _ .vmem, ⟨10, _⟩ => ⟨S1x1, .f32⟩
  | .local _ .vmem, ⟨11, _⟩ => ⟨S16x64x2048, .f32⟩
  | .local _ .vmem, ⟨12, _⟩ => ⟨S16x64x2048, .f32⟩
  | .local _ .vmem, ⟨13, _⟩ => ⟨S16x64x2048, .f32⟩
  | .local _ .vmem, ⟨14, _⟩ => ⟨S16x64x2048, .f32⟩
  | .local _ .vmem, ⟨15, _⟩ => ⟨S320x129, .bf16⟩
  | .local _ .vmem, ⟨16, _⟩ => ⟨S64x256, .bf16⟩
  | .local _ .vmem, ⟨17, _⟩ => ⟨S64x1, .bf16⟩
  | .local _ .vmem, ⟨18, _⟩ => ⟨S1x1, .f32⟩
  | .local _ .vmem, ⟨19, _⟩ => ⟨S16x64x2048, .f32⟩
  | .local _ .vmem, ⟨20, _⟩ => ⟨S16x64x2048, .f32⟩
  | .local _ .vmem, ⟨21, _⟩ => ⟨S16x1x1, .f32⟩
  | .local _ .vmem, ⟨22, _⟩ => ⟨S16x1x1, .f32⟩
  | _, _ => ⟨S256x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5_0 : Ref sig .tc := ⟨.hbm, 18, rfl⟩
abbrev main_call0_v5_1 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_v0_0 : Ref sig .tc := ⟨.hbm, 23, rfl⟩
abbrev main_call0_v9_1 : Ref sig .tc := ⟨.hbm, 24, rfl⟩
abbrev main_v0_1 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S320x129 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x64x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S320x129 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x1 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S16x64x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S16x1x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S256x64x2048 : Shape := ⟨3, ![256, 64, 2048]⟩
abbrev S1x64x1 : Shape := ⟨3, ![1, 64, 1]⟩
abbrev S64x64 : Shape := ⟨2, ![64, 64]⟩
abbrev S64 : Shape := ⟨1, ![64]⟩
abbrev S256x96 : Shape := ⟨2, ![256, 96]⟩
abbrev S256 : Shape := ⟨1, ![256]⟩
abbrev S64x256 : Shape := ⟨2, ![64, 256]⟩
abbrev S_ : Shape := ⟨0, ![]⟩
abbrev S64x1 : Shape := ⟨2, ![64, 1]⟩
abbrev S256x2048x64 : Shape := ⟨3, ![256, 2048, 64]⟩
abbrev S256x32x2048 : Shape := ⟨3, ![256, 32, 2048]⟩
abbrev S256x96x2048 : Shape := ⟨3, ![256, 96, 2048]⟩
abbrev S256x2048x96 : Shape := ⟨3, ![256, 2048, 96]⟩
abbrev S96x256 : Shape := ⟨2, ![96, 256]⟩
abbrev S256x2048x256 : Shape := ⟨3, ![256, 2048, 256]⟩
abbrev S1x1x256 : Shape := ⟨3, ![1, 1, 256]⟩
abbrev S256x64 : Shape := ⟨2, ![256, 64]⟩
abbrev S1x1x64 : Shape := ⟨3, ![1, 1, 64]⟩
abbrev S256x65536 : Shape := ⟨2, ![256, 65536]⟩

abbrev nBuf : Space → Nat
  | .hbm => 124
  | .vmem => 0
  | .smem => 0
  | _ => 0

abbrev bufTy : (tb : Table) → Fin (tcTables nBuf tb) → BufTy
  | .hbm, ⟨0, _⟩ => ⟨S256x64x2048, .f32⟩
  | .hbm, ⟨1, _⟩ => ⟨S256x64x2048, .f32⟩
  | .hbm, ⟨2, _⟩ => ⟨S1x64x1, .f32⟩
  | .hbm, ⟨3, _⟩ => ⟨S1x64x1, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S256x96, .f32⟩
  | .hbm, ⟨10, _⟩ => ⟨S256, .f32⟩
  | .hbm, ⟨11, _⟩ => ⟨S64x256, .f32⟩
  | .hbm, ⟨12, _⟩ => ⟨S64, .f32⟩
  | .hbm, ⟨13, _⟩ => ⟨S256x64x2048, .f32⟩
  | .hbm, ⟨14, _⟩ => ⟨S256x64x2048, .f32⟩
  | .hbm, ⟨15, _⟩ => ⟨S256x64x2048, .f32⟩
  | .hbm, ⟨16, _⟩ => ⟨S256x64x2048, .f32⟩
  | .hbm, ⟨17, _⟩ => ⟨S1x64x1, .f32⟩
  | .hbm, ⟨18, _⟩ => ⟨S1x64x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S64x64, .i32⟩
  | .hbm, ⟨24, _⟩ => ⟨S64x64, .i32⟩
  | .hbm, ⟨25, _⟩ => ⟨S_, .i32⟩
  | .hbm, ⟨26, _⟩ => ⟨S64x64, .i32⟩
  | .hbm, ⟨27, _⟩ => ⟨S64x64, .i32⟩
  | .hbm, ⟨28, _⟩ => ⟨S64x64, .i1⟩
  | .hbm, ⟨29, _⟩ => ⟨S64x64, .f32⟩
  | .hbm, ⟨30, _⟩ => ⟨S_, .f32⟩
  | .hbm, ⟨31, _⟩ => ⟨S64x64, .f32⟩
  | .hbm, ⟨32, _⟩ => ⟨S64x64, .i32⟩
  | .hbm, ⟨33, _⟩ => ⟨S_, .i32⟩
  | .hbm, ⟨34, _⟩ => ⟨S64x64, .i32⟩
  | .hbm, ⟨35, _⟩ => ⟨S64x64, .i32⟩
  | .hbm, ⟨36, _⟩ => ⟨S64x64, .i32⟩
  | .hbm, ⟨37, _⟩ => ⟨S64x64, .i1⟩
  | .hbm, ⟨38, _⟩ => ⟨S_, .f32⟩
  | .hbm, ⟨39, _⟩ => ⟨S64x64, .f32⟩
  | .hbm, ⟨40, _⟩ => ⟨S64x64, .f32⟩
  | .hbm, ⟨41, _⟩ => ⟨S_, .f32⟩
  | .hbm, ⟨42, _⟩ => ⟨S64x64, .f32⟩
  | .hbm, ⟨43, _⟩ => ⟨S64x64, .i32⟩
  | .hbm, ⟨44, _⟩ => ⟨S_, .i32⟩
  | .hbm, ⟨45, _⟩ => ⟨S64x64, .i32⟩
  | .hbm, ⟨46, _⟩ => ⟨S64x64, .i32⟩
  | .hbm, ⟨47, _⟩ => ⟨S64x64, .i32⟩
  | .hbm, ⟨48, _⟩ => ⟨S64x64, .i1⟩
  | .hbm, ⟨49, _⟩ => ⟨S_, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S64x64, .f32⟩
  | .hbm, ⟨55, _⟩ => ⟨S64x64, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64x64, .i32⟩
  | .hbm, ⟨61, _⟩ => ⟨S64x64, .i32⟩
  | .hbm, ⟨62, _⟩ => ⟨S_, .i32⟩
  | .hbm, ⟨63, _⟩ => ⟨S64x64, .i32⟩
  | .hbm, ⟨64, _⟩ => ⟨S64x64, .i32⟩
  | .hbm, ⟨65, _⟩ => ⟨S64x64, .i1⟩
  | .hbm, ⟨66, _⟩ => ⟨S64x1, .f32⟩
  | .hbm, ⟨67, _⟩ => ⟨S_, .f32⟩
  | .hbm, ⟨68, _⟩ => ⟨S64x64, .f32⟩
  | .hbm, ⟨69, _⟩ => ⟨S64x64, .f32⟩
  | .hbm, ⟨70, _⟩ => ⟨S64x64, .f32⟩
  | .hbm, ⟨71, _⟩ => ⟨S64x64, .f32⟩
  | .hbm, ⟨72, _⟩ => ⟨S64x64, .f32⟩
  | .hbm, ⟨73, _⟩ => ⟨S256x2048x64, .f32⟩
  | .hbm, ⟨74, _⟩ => ⟨S256x64x2048, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S256x32x2048, .f32⟩
  | .hbm, ⟨81, _⟩ => ⟨S256x32x2048, .f32⟩
  | .hbm, ⟨82, _⟩ => ⟨S256x96x2048, .f32⟩
  | .hbm, ⟨83, _⟩ => ⟨S256x2048x96, .f32⟩
  | .hbm, ⟨84, _⟩ => ⟨S96x256, .f32⟩
  | .hbm, ⟨85, _⟩ => ⟨S256x2048x256, .f32⟩
  | .hbm, ⟨86, _⟩ => ⟨S1x1x256, .f32⟩
  | .hbm, ⟨87, _⟩ => ⟨S256x2048x256, .f32⟩
  | .hbm, ⟨88, _⟩ => ⟨S256x2048x256, .f32⟩
  | .hbm, ⟨89, _⟩ => ⟨S_, .f32⟩
  | .hbm, ⟨90, _⟩ => ⟨S256x2048x256, .f32⟩
  | .hbm, ⟨91, _⟩ => ⟨S256x2048x256, .f32⟩
  | .hbm, ⟨92, _⟩ => ⟨S256x2048x256, .f32⟩
  | .hbm, ⟨93, _⟩ => ⟨S_, .f32⟩
  | .hbm, ⟨94, _⟩ => ⟨S_, .f32⟩
  | .hbm, ⟨95, _⟩ => ⟨S256x2048x256, .f32⟩
  | .hbm, ⟨96, _⟩ => ⟨S256x2048x256, .f32⟩
  | .hbm, ⟨97, _⟩ => ⟨S256x2048x256, .f32⟩
  | .hbm, ⟨98, _⟩ => ⟨S256x2048x256, .f32⟩
  | .hbm, ⟨99, _⟩ => ⟨S256x64, .f32⟩
  | .hbm, ⟨100, _⟩ => ⟨S256x2048x64, .f32⟩
  | .hbm, ⟨101, _⟩ => ⟨S1x1x64, .f32⟩
  | .hbm, ⟨102, _⟩ => ⟨S256x2048x64, .f32⟩
  | .hbm, ⟨103, _⟩ => ⟨S256x2048x64, .f32⟩
  | .hbm, ⟨104, _⟩ => ⟨S256x2048x64, .f32⟩
  | .hbm, ⟨105, _⟩ => ⟨S256x2048x64, .f32⟩
  | .hbm, ⟨106, _⟩ => ⟨S_, .f32⟩
  | .hbm, ⟨107, _⟩ => ⟨S256x2048x64, .f32⟩
  | .hbm, ⟨108, _⟩ => ⟨S256x2048x64, .f32⟩
  | .hbm, ⟨109, _⟩ => ⟨S_, .f32⟩
  | .hbm, ⟨110, _⟩ => ⟨S256x2048x64, .f32⟩
  | .hbm, ⟨111, _⟩ => ⟨S256x2048x64, .f32⟩
  | .hbm, ⟨112, _⟩ => ⟨S256x64x2048, .f32⟩
  | .hbm, ⟨113, _⟩ => ⟨S256x32x2048, .f32⟩
  | .hbm, ⟨114, _⟩ => ⟨S256x32x2048, .f32⟩
  | .hbm, ⟨115, _⟩ => ⟨S256x32x2048, .f32⟩
  | .hbm, ⟨116, _⟩ => ⟨S256x32x2048, .f32⟩
  | .hbm, ⟨117, _⟩ => ⟨S256x32x2048, .f32⟩
  | .hbm, ⟨118, _⟩ => ⟨S256x65536, .f32⟩
  | .hbm, ⟨119, _⟩ => ⟨S_, .f32⟩
  | .hbm, ⟨120, _⟩ => ⟨S256, .f32⟩
  | .hbm, ⟨121, _⟩ => ⟨S256, .f32⟩
  | .hbm, ⟨122, _⟩ => ⟨S256, .f32⟩
  | .hbm, ⟨123, _⟩ => ⟨S256x64x2048, .f32⟩
  | _, _ => ⟨S256x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_call0_v0 : Ref sig .tc := ⟨.hbm, 32, rfl⟩
abbrev main_call0_c : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_cst : Ref sig .tc := ⟨.hbm, 38, rfl⟩
abbrev main_call0_v5 : Ref sig .tc := ⟨.hbm, 39, rfl⟩
abbrev main_v15 : Ref sig .tc := ⟨.hbm, 40, rfl⟩
abbrev main_cst_2 : Ref sig .tc := ⟨.hbm, 41, rfl⟩
abbrev main_v16 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_cst : Ref sig .tc := ⟨.hbm, 49, rfl⟩
abbrev main_call1_v5 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_call2_cst : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_c : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_cst_0 : Ref sig .tc := ⟨.hbm, 67, rfl⟩
abbrev main_call2_call0_v0 : Ref sig .tc := ⟨.hbm, 68, rfl⟩
abbrev main_call2_call0_v1 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_cst_3 : Ref sig .tc := ⟨.hbm, 75, rfl⟩
abbrev main_v29 : Ref sig .tc := ⟨.hbm, 76, rfl⟩
abbrev main_cst_4 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_cst_5 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_cst_6 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_7 : Ref sig .tc := ⟨.hbm, 106, rfl⟩
abbrev main_v56 : Ref sig .tc := ⟨.hbm, 107, rfl⟩
abbrev main_v57 : Ref sig .tc := ⟨.hbm, 108, rfl⟩
abbrev main_cst_8 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_cst_9 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩

abbrev nD : Nat := 1
abbrev τ : Topo := Topo.v7x

variable {F : FTy → Type} [FloatOps F]
-- ==== Proof.Stages.lean ====
/- What the reference computes, cut into its stages: the mixing matrix, the mixed channels, the network's layers, the results. -/
module

public import proofs.«01_k».proof.Proof.Gen.ReferenceIdeal.Run
public import Idealize.ShloMosaic.PureOps.Ideal

@[expose] public section

set_option maxRecDepth 16384

noncomputable section

namespace Cert.ReferenceIdeal.Stages

open Cert.ReferenceIdeal Cert.ReferenceIdeal.Gen Cert.ReferenceIdeal.Value
open Idealize.ShloMosaic Idealize.ShloMosaic.TcCoe Idealize.SL.Sem

/-- The unit lower triangular factor. -/
def lowerU (wl : FVec Ideal S64x64 .f32) : FVec Ideal S64x64 .f32 :=
  addf (mulf wl (select (cmpi .sge (addi (iotaInDim S64x64 32 0) (broadcastInDim S64x64 ![] bcast_S_S64x64 (constantI S_ 32 4294967295#32))) (iotaInDim S64x64 32 1)) (broadcastInDim S64x64 ![] bcast_S_S64x64 (constant S_ .f32 0x3F800000#32)) (broadcastInDim S64x64 ![] bcast_S_S64x64 (constant S_ .f32 0x00000000#32)))) (uitofp .f32 (cmpi .eq (addi (iotaInDim S64x64 32 0) (broadcastInDim S64x64 ![] bcast_S_S64x64 (constantI S_ 32 0#32))) (iotaInDim S64x64 32 1)))

/-- The upper triangular factor, its diagonal signed exponentials. -/
def upperD (wu : FVec Ideal S64x64 .f32) (sg : FVec Ideal S64 .f32) (ws : FVec Ideal S64 .f32) : FVec Ideal S64x64 .f32 :=
  addf (mulf wu (select (cmpi .sge (addi (iotaInDim S64x64 32 0) (broadcastInDim S64x64 ![] bcast_S_S64x64 (constantI S_ 32 0#32))) (iotaInDim S64x64 32 1)) (broadcastInDim S64x64 ![] bcast_S_S64x64 (constant S_ .f32 0x00000000#32)) (broadcastInDim S64x64 ![] bcast_S_S64x64 (constant S_ .f32 0x3F800000#32)))) (select (cmpi .eq (addi (iotaInDim S64x64 32 0) (broadcastInDim S64x64 ![] bcast_S_S64x64 (constantI S_ 32 0#32))) (iotaInDim S64x64 32 1)) (broadcastInDim S64x64 ![0, 1] bcast_S64x1_S64x64_0_1 (broadcastInDim S64x1 ![0] bcast_S64_S64x1_0 (pad S64 ![0] ![0] ![0] (mulf sg (Host.exp ws)) (constant S_ .f32 0x00000000#32) pads_S64_S64_000 h_S_))) (broadcastInDim S64x64 ![] bcast_S_S64x64 (constant S_ .f32 0x00000000#32)))

/-- The mixing matrix. -/
def weight (wp : FVec Ideal S64x64 .f32) (wl : FVec Ideal S64x64 .f32) (ws : FVec Ideal S64 .f32) (wu : FVec Ideal S64x64 .f32) (sg : FVec Ideal S64 .f32) : FVec Ideal S64x64 .f32 :=
  Host.dotGeneral dot_S64x64_S64x64_S64x64_1_0_0_1_n_n none (Host.dotGeneral dot_S64x64_S64x64_S64x64_1_0_0_1_n_n none wp (lowerU wl)) (upperD wu sg ws)

/-- The normalised input, its channels mixed. -/
def mixed (x : FVec Ideal S256x64x2048 .f32) (loc : FVec Ideal S1x64x1 .f32) (sc : FVec Ideal S1x64x1 .f32) (wt : FVec Ideal S64x64 .f32) : FVec Ideal S256x64x2048 .f32 :=
  transpose S256x64x2048 [0, 2, 1] (Host.dotGeneral dot_S256x64x2048_S64x64_S256x2048x64_1_1_02_0_n_n none (mulf (broadcastInDim S256x64x2048 ![0, 1, 2] bcast_S1x64x1_S256x64x2048_0_1_2 sc) (addf x (broadcastInDim S256x64x2048 ![0, 1, 2] bcast_S1x64x1_S256x64x2048_0_1_2 loc))) wt) transposes_S256x2048x64_S256x64x2048_0_2_1

/-- The hidden layer before its activation. -/
def hidden (mx : FVec Ideal S256x64x2048 .f32) (he : FVec Ideal S256x64x2048 .f32) (w1 : FVec Ideal S256x96 .f32) (b1 : FVec Ideal S256 .f32) : FVec Ideal S256x2048x256 .f32 :=
  addf (Host.dotGeneral dot_S256x2048x96_S96x256_S256x2048x256_2_0_01_1_n_n none (transpose S256x2048x96 [0, 2, 1] (concatenate S256x96x2048 1 [⟨S256x64x2048, he⟩, ⟨S256x32x2048, (extractStridedSlice S256x32x2048 ![0, 32, 0] mx slices_S256x64x2048_S256x32x2048_0_32_0)⟩] concatenates_S256x64x2048_S256x32x2048_S256x96x2048_d1) transposes_S256x96x2048_S256x2048x96_0_2_1) (transpose S96x256 [1, 0] w1 transposes_S256x96_S96x256_1_0)) (broadcastInDim S256x2048x256 ![0, 1, 2] bcast_S1x1x256_S256x2048x256_0_1_2 (broadcastInDim S1x1x256 ![2] bcast_S256_S1x1x256_2 b1))

/-- The hidden layer's activation, the exact gelu. -/
def act (h : FVec Ideal S256x2048x256 .f32) : FVec Ideal S256x2048x256 .f32 :=
  mulf (mulf (broadcastInDim S256x2048x256 ![] bcast_S_S256x2048x256 (constant S_ .f32 0x3F000000#32)) h) (Host.erfc (Host.divf (Host.negf h) (broadcastInDim S256x2048x256 ![] bcast_S_S256x2048x256 (Host.sqrt (constant S_ .f32 0x40000000#32)))))

/-- The last layer before the logistic function. -/
def net (a : FVec Ideal S256x2048x256 .f32) (w2 : FVec Ideal S64x256 .f32) (b2 : FVec Ideal S64 .f32) : FVec Ideal S256x2048x64 .f32 :=
  addf (Host.dotGeneral dot_S256x2048x256_S256x64_S256x2048x64_2_0_01_1_n_n none a (transpose S256x64 [1, 0] w2 transposes_S64x256_S256x64_1_0)) (broadcastInDim S256x2048x64 ![0, 1, 2] bcast_S1x1x64_S256x2048x64_0_1_2 (broadcastInDim S1x1x64 ![2] bcast_S64_S1x1x64_2 b2))

/-- The logistic function of the last layer, channels first. -/
def gate (z : FVec Ideal S256x2048x64 .f32) : FVec Ideal S256x64x2048 .f32 :=
  transpose S256x64x2048 [0, 2, 1] (Host.divf (broadcastInDim S256x2048x64 ![] bcast_S_S256x2048x64 (constant S_ .f32 0x3F800000#32)) (addf (broadcastInDim S256x2048x64 ![] bcast_S_S256x2048x64 (constant S_ .f32 0x3F800000#32)) (Host.exp (Host.negf z)))) transposes_S256x2048x64_S256x64x2048_0_2_1

/-- The first result, from the gates and the mixed channels. -/
def out (gt : FVec Ideal S256x64x2048 .f32) (mx : FVec Ideal S256x64x2048 .f32) : FVec Ideal S256x64x2048 .f32 :=
  concatenate S256x64x2048 1 [⟨S256x32x2048, (addf (mulf (Host.exp (extractStridedSlice S256x32x2048 ![0, 0, 0] gt slices_S256x64x2048_S256x32x2048_0_0_0)) (extractStridedSlice S256x32x2048 ![0, 0, 0] mx slices_S256x64x2048_S256x32x2048_0_0_0)) (extractStridedSlice S256x32x2048 ![0, 32, 0] gt slices_S256x64x2048_S256x32x2048_0_32_0))⟩, ⟨S256x32x2048, (extractStridedSlice S256x32x2048 ![0, 32, 0] mx slices_S256x64x2048_S256x32x2048_0_32_0)⟩] concatenates_S256x32x2048_S256x32x2048_S256x64x2048_d1

/-- The second result, from the gates. -/
def ld (gt : FVec Ideal S256x64x2048 .f32) (sc : FVec Ideal S1x64x1 .f32) (ws : FVec Ideal S64 .f32) : FVec Ideal S256 .f32 :=
  addf (broadcastInDim S256 ![] bcast_S_S256 (addf (mulf (constant S_ .f32 0x45000000#32) (Host.reduceAdd (Host.log (Host.absf sc)) (constant S_ .f32 0x00000000#32) reducesTo_S1x64x1_S_d0_1_2 h_S_)) (mulf (constant S_ .f32 0x45000000#32) (Host.reduceAdd ws (constant S_ .f32 0x00000000#32) reducesTo_S64_S_d0 h_S_)))) (Host.reduceAdd (shapeCast _ (extractStridedSlice S256x32x2048 ![0, 0, 0] gt slices_S256x64x2048_S256x32x2048_0_0_0) shapeCasts_S256x32x2048_S256x65536) (constant S_ .f32 0x00000000#32) reducesTo_S256x65536_S256_d1 h_S_)

/-- The gates, from the arguments. -/
def gates (x : FVec Ideal S256x64x2048 .f32) (he : FVec Ideal S256x64x2048 .f32) (loc : FVec Ideal S1x64x1 .f32) (sc : FVec Ideal S1x64x1 .f32) (wp : FVec Ideal S64x64 .f32) (wl : FVec Ideal S64x64 .f32) (ws : FVec Ideal S64 .f32) (wu : FVec Ideal S64x64 .f32) (sg : FVec Ideal S64 .f32) (w1 : FVec Ideal S256x96 .f32) (b1 : FVec Ideal S256 .f32) (w2 : FVec Ideal S64x256 .f32) (b2 : FVec Ideal S64 .f32) : FVec Ideal S256x64x2048 .f32 :=
  (gate (net (act (hidden (mixed x loc sc (weight wp wl ws wu sg)) he w1 b1)) w2 b2))

variable (m : (ℓ : Loc nD τ sig) → Buf (Elt Ideal) ℓ)

theorem res0 (c : Dev nD) : res_out0 m c = out (gates (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
    (mixed (m ((c.tc : Thread nD τ).loc main_arg0)) (m ((c.tc : Thread nD τ).loc main_arg2)) (m ((c.tc : Thread nD τ).loc main_arg3)) (weight (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))) := rfl

theorem res1 (c : Dev nD) : res_out1 m c = ld (gates (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg3)) (m ((c.tc : Thread nD τ).loc main_arg6)) := rfl

end Cert.ReferenceIdeal.Stages

end
-- ==== Proof.Scalars.lean ====
/- Facts about extended reals that both programs' values are compared by: sums of reals, the two forms of the gelu, the two
   forms of the logistic function. -/
module

public import Idealize.ShloMosaic.PureOps.Ideal.Laws

@[expose] public section

noncomputable section

namespace Cert.Scalars

open Idealize.ShloMosaic

/-- A finite sum of reals, as an extended real, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The error function on the reals. -/
def erfR (r : ℝ) : ℝ := 2 / Real.sqrt Real.pi * ∫ t in (0 : ℝ)..r, Real.exp (-(t ^ 2))

theorem erf_real (r : ℝ) : Ideal.erf (r : EReal) = (erfR r : EReal) := rfl

/-- The exact gelu on the reals. -/
def geluR (h : ℝ) : ℝ := h / 2 * (1 + erfR (h / Real.sqrt 2))

/-- The gelu by the complementary error function. -/
theorem gelu_erfc (h : ℝ) :
    ((1 / 2 : ℝ) : EReal) * (h : EReal) * Ideal.erfc (Ideal.div (-(h : EReal)) (Ideal.sqrt ((2 : ℝ) : EReal))) = (geluR h : EReal) := by
  have h2 : Real.sqrt 2 ≠ 0 := (Real.sqrt_pos.mpr (by norm_num)).ne'
  rw [Ideal.sqrt_coe, if_neg (by norm_num : ¬ (2 : ℝ) < 0), Ideal.div_coe h2, EReal.neg_mul, Ideal.erfc_neg, ← EReal.coe_mul, ← EReal.coe_mul, erf_real,
    ← EReal.coe_one, ← EReal.coe_add, ← EReal.coe_mul, geluR]
  congr 1
  rw [mul_one_div]
  ring

/-- The gelu by the error function, of a hidden value that comes divided by the root of two. -/
theorem gelu_erf (h : ℝ) :
    ((h * (Real.sqrt 2)⁻¹ : ℝ) : EReal) * (((Real.sqrt 2)⁻¹ : ℝ) : EReal)
      + ((h * (Real.sqrt 2)⁻¹ : ℝ) : EReal) * (((Real.sqrt 2)⁻¹ : ℝ) : EReal) * Ideal.erf ((h * (Real.sqrt 2)⁻¹ : ℝ) : EReal)
      = (geluR h : EReal) := by
  rw [erf_real, ← EReal.coe_mul, ← EReal.coe_mul, ← EReal.coe_add, geluR]
  congr 1
  have e : (Real.sqrt 2)⁻¹ * (Real.sqrt 2)⁻¹ = 1 / 2 := by
    rw [← mul_inv, Real.mul_self_sqrt (by norm_num)]; norm_num
  rw [mul_assoc h, e, div_eq_mul_inv h (Real.sqrt 2)]
  ring

/-- The logistic function by the hyperbolic tangent. -/
theorem tanh_logistic (z : EReal) :
    Ideal.tanh (z * ((1 / 2 : ℝ) : EReal)) * ((1 / 2 : ℝ) : EReal) + ((1 / 2 : ℝ) : EReal) = Ideal.logistic z := by
  induction z using EReal.rec with
  | bot =>
    rw [EReal.bot_mul_coe_of_pos (by norm_num), Ideal.tanh_bot, Ideal.logistic_bot, ← EReal.coe_one, ← EReal.coe_neg, ← EReal.coe_mul,
      ← EReal.coe_add, ← EReal.coe_zero]
    congr 1; norm_num
  | top =>
    rw [EReal.top_mul_coe_of_pos (by norm_num), Ideal.tanh_top, Ideal.logistic_top, ← EReal.coe_one, ← EReal.coe_mul, ← EReal.coe_add]
    congr 1; norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have ha : 0 < Real.exp (r * (1 / 2)) := Real.exp_pos _
    have hb : 0 < Real.exp (-(r * (1 / 2))) := Real.exp_pos _
    have e : Real.exp (-r) = Real.exp (-(r * (1 / 2))) * Real.exp (-(r * (1 / 2))) := by rw [← Real.exp_add]; congr 1; ring
    have e1 : Real.exp (r * (1 / 2)) * Real.exp (-(r * (1 / 2))) = 1 := by rw [← Real.exp_add]; simp
    rw [e]
    generalize Real.exp (r * (1 / 2)) = a at *
    generalize Real.exp (-(r * (1 / 2))) = b at *
    have hne : a + b ≠ 0 := by positivity
    have hne' : 1 + b * b ≠ 0 := by positivity
    field_simp
    linear_combination (2 * b) * e1

/-- A sum over 129 places is the sum over the first 64, the next 64 and the last. -/
theorem sum129 {M : Type*} [AddCommMonoid M] (f : Fin 129 → M) :
    ∑ k, f k = ∑ k : Fin 64, f ⟨k, by omega⟩ + ∑ k : Fin 64, f ⟨64 + k, by omega⟩ + f ⟨128, by omega⟩ := by
  have h := Fin.sum_univ_castSucc (n := 128) f
  have h' := Fin.sum_univ_add (a := 64) (b := 64) (fun k : Fin (64 + 64) => f (Fin.castSucc k))
  rw [h]
  exact congrArg (· + f ⟨128, by omega⟩) h'

/-- A sum over 96 places is the sum over the first 64 and the last 32. -/
theorem sum96 {M : Type*} [AddCommMonoid M] (f : Fin 96 → M) :
    ∑ k, f k = ∑ k : Fin 64, f ⟨k, by omega⟩ + ∑ k : Fin 32, f ⟨64 + k, by omega⟩ :=
  Fin.sum_univ_add (a := 64) (b := 32) f

end Cert.Scalars

end
-- ==== Proof.Reals.lean ====
/- The mathematics of both programs, on the reals: the mixing matrix, the mixed channels and the hidden layer. -/
module

public import proofs.«01_k».proof.Proof.Scalars
public import Idealize.ShloMosaic.PureOps.Ideal

@[expose] public section

noncomputable section

namespace Cert.Reals

open Idealize.ShloMosaic

/-- An array of reals as an array of extended reals. -/
def up {s : Shape} (X : s.Idx → ℝ) : s.Idx → EReal := fun i => ((X i : ℝ) : EReal)

theorem up_apply {s : Shape} (X : s.Idx → ℝ) (i : s.Idx) : up X i = ((X i : ℝ) : EReal) := rfl

/-- The unit lower triangular factor. -/
def lowerE (L : Fin 64 → Fin 64 → ℝ) (k j : Fin 64) : ℝ := if j < k then L k j else if k = j then 1 else 0

/-- The upper triangular factor with diagonal `D`. -/
def upperE (U : Fin 64 → Fin 64 → ℝ) (D : Fin 64 → ℝ) (j l : Fin 64) : ℝ := if j < l then U j l else if j = l then D l else 0

/-- The mixing matrix. -/
def mixE (P L U : Fin 64 → Fin 64 → ℝ) (D : Fin 64 → ℝ) (i l : Fin 64) : ℝ :=
  ∑ j, (∑ k, P i k * lowerE L k j) * upperE U D j l

/-- Input channel `l` of item `b`, position `g`, normalised, its channels mixed into channel `i`. -/
def mixedE (W : Fin 64 → Fin 64 → ℝ) (S Lo : Fin 64 → ℝ) (X : Fin 64 → ℝ) (i : Fin 64) : ℝ :=
  ∑ l, S l * (X l + Lo l) * W i l

/-- Hidden unit `o` before its activation, from the history `He` and the lower half of the mixed channels `M`. -/
def hiddenE (W1 : Fin 256 → Fin 96 → ℝ) (B1 : Fin 256 → ℝ) (He M : Fin 64 → ℝ) (o : Fin 256) : ℝ :=
  ∑ k : Fin 64, He k * W1 o ⟨k, by omega⟩ + ∑ k : Fin 32, M ⟨32 + k, by omega⟩ * W1 o ⟨64 + k, by omega⟩ + B1 o

/-- The mixed channels by a matrix with the scale folded in and a constant term with the shift. -/
theorem mixedE_fold (W : Fin 64 → Fin 64 → ℝ) (S Lo X : Fin 64 → ℝ) (i : Fin 64) :
    ∑ l, W i l * S l * X l + ∑ l, W i l * (S l * Lo l) = mixedE W S Lo X i := by
  rw [mixedE, ← Finset.sum_add_distrib]
  exact Finset.sum_congr rfl fun l _ => by ring

/-- The hidden layer by weights with the mixing folded in, all divided by the root of two (`s` its inverse). -/
theorem hiddenE_fold (W : Fin 64 → Fin 64 → ℝ) (S Lo X : Fin 64 → ℝ) (W1 : Fin 256 → Fin 96 → ℝ) (B1 : Fin 256 → ℝ)
    (He : Fin 64 → ℝ) (s : ℝ) (o : Fin 256) :
    ∑ c : Fin 64, W1 o ⟨c, by omega⟩ * s * He c
      + ∑ c : Fin 64, (∑ k : Fin 32, W1 o ⟨64 + k, by omega⟩ * (W ⟨32 + k, by omega⟩ c * S c)) * s * X c
      + (∑ k : Fin 32, W1 o ⟨64 + k, by omega⟩ * (∑ l, W ⟨32 + k, by omega⟩ l * (S l * Lo l)) + B1 o) * s
      = hiddenE W1 B1 He (mixedE W S Lo X) o * s := by
  have e : ∑ c : Fin 64, (∑ k : Fin 32, W1 o ⟨64 + k, by omega⟩ * (W ⟨32 + k, by omega⟩ c * S c)) * X c
      = ∑ k : Fin 32, W1 o ⟨64 + k, by omega⟩ * ∑ c : Fin 64, W ⟨32 + k, by omega⟩ c * S c * X c := by
    simp only [Finset.sum_mul, Finset.mul_sum]
    rw [Finset.sum_comm]
    exact Finset.sum_congr rfl fun k _ => Finset.sum_congr rfl fun c _ => by ring
  have e1 : ∑ c : Fin 64, W1 o ⟨c, by omega⟩ * s * He c = (∑ c : Fin 64, He c * W1 o ⟨c, by omega⟩) * s := by
    rw [Finset.sum_mul]; exact Finset.sum_congr rfl fun c _ => by ring
  have e2 : ∑ c : Fin 64, (∑ k : Fin 32, W1 o ⟨64 + k, by omega⟩ * (W ⟨32 + k, by omega⟩ c * S c)) * s * X c
      = (∑ k : Fin 32, W1 o ⟨64 + k, by omega⟩ * ∑ c : Fin 64, W ⟨32 + k, by omega⟩ c * S c * X c) * s := by
    rw [← e, Finset.sum_mul]; exact Finset.sum_congr rfl fun c _ => by ring
  have e3 : ∑ k : Fin 32, mixedE W S Lo X ⟨32 + k, by omega⟩ * W1 o ⟨64 + k, by omega⟩
      = ∑ k : Fin 32, W1 o ⟨64 + k, by omega⟩ * ∑ c : Fin 64, W ⟨32 + k, by omega⟩ c * S c * X c
        + ∑ k : Fin 32, W1 o ⟨64 + k, by omega⟩ * ∑ l, W ⟨32 + k, by omega⟩ l * (S l * Lo l) := by
    rw [← Finset.sum_add_distrib]
    exact Finset.sum_congr rfl fun k _ => by rw [← mixedE_fold]; ring
  rw [e1, e2, hiddenE, e3]
  ring

end Cert.Reals

end
-- ==== Proof.Consts.lean ====
/- The float words the programs hold, as extended reals. -/
module

public import proofs.«01_k».proof.Proof.Gen.KernelIdeal
public import Idealize.ShloMosaic.PureOps.Ideal.Laws

@[expose] public section

noncomputable section

namespace Cert.Consts

open Idealize.ShloMosaic

theorem half_f32 : Ideal.ofBits .f32 0x3F000000#32 = ((1 / 2 : ℝ) : EReal) := by
  simp [Ideal.ofBits, Ideal.ieee, -EReal.coe_mul]; norm_num

theorem half_bf16 : Ideal.ofBits .bf16 0x3F00#16 = ((1 / 2 : ℝ) : EReal) := by
  simp [Ideal.ofBits, Ideal.ieee, -EReal.coe_mul]; norm_num

theorem one_f32 : Ideal.ofBits .f32 0x3F800000#32 = ((1 : ℝ) : EReal) := by
  simp [Ideal.ofBits, Ideal.ieee, -EReal.coe_mul]; norm_num

theorem one_bf16 : Ideal.ofBits .bf16 0x3F80#16 = ((1 : ℝ) : EReal) := by
  simp [Ideal.ofBits, Ideal.ieee, -EReal.coe_mul]; norm_num

theorem two_f32 : Ideal.ofBits .f32 0x40000000#32 = ((2 : ℝ) : EReal) := by
  simp [Ideal.ofBits, Ideal.ieee, -EReal.coe_mul]; norm_num

theorem n_f32 : Ideal.ofBits .f32 0x45000000#32 = ((2048 : ℝ) : EReal) := by
  simp [Ideal.ofBits, Ideal.ieee, -EReal.coe_mul]; norm_num

theorem zero_f32 : Ideal.ofBits .f32 0x00000000#32 = ((0 : ℝ) : EReal) := by
  simp [Ideal.ofBits, Ideal.ieee]

theorem inf_f32 : Ideal.ofBits .f32 0x7F800000#32 = ⊤ := by
  simp [Ideal.ofBits, Ideal.ieee]

/-- The prologue's named constant is the inverse of the root of two. -/
theorem root_f32 : Named.named (F := Ideal) Cert.KernelIdeal.κ "inv_sqrt2" (φ := .f32) 0x3F3504F3#32
    = (((Real.sqrt 2)⁻¹ : ℝ) : EReal) := IdealRules.named_const.ideal_named_scalar _ _ _ _ rfl

/-- The main kernel's named constant is the inverse of the root of two. -/
theorem root_bf16 : Named.named (F := Ideal) Cert.KernelIdeal.κ "inv_sqrt2" (φ := .bf16) 0x3F35#16
    = (((Real.sqrt 2)⁻¹ : ℝ) : EReal) := IdealRules.named_const.ideal_named_scalar _ _ _ _ rfl

end Cert.Consts

end
-- ==== Proof.Masks.lean ====
/- The triangular and diagonal masks, read as comparisons of two channel numbers. -/
module

public import Idealize.ShloMosaic.Lib.Pointwise

@[expose] public section

set_option maxRecDepth 16384

namespace Cert.Masks

open Idealize.ShloMosaic

theorem sgt_word (x y : Fin 64) : IntOp.cmpi .sgt (BitVec.ofNat 32 x) (BitVec.ofNat 32 y) = BitVec.ofBool (decide (y < x)) := by
  revert x y; decide +kernel

theorem slt_word (x y : Fin 64) : IntOp.cmpi .slt (BitVec.ofNat 32 x) (BitVec.ofNat 32 y) = BitVec.ofBool (decide (x < y)) := by
  revert x y; decide +kernel

theorem eq_word (x y : Fin 64) : IntOp.cmpi .eq (BitVec.ofNat 32 x) (BitVec.ofNat 32 y) = BitVec.ofBool (decide (x = y)) := by
  revert x y; decide +kernel

theorem sge_word (x y : Fin 64) : IntOp.cmpi .sge (BitVec.ofNat 32 x) (BitVec.ofNat 32 y) = BitVec.ofBool (decide (y ≤ x)) := by
  revert x y; decide +kernel

theorem sge_pred_word (x y : Fin 64) :
    IntOp.cmpi .sge (BitVec.ofNat 32 x + 4294967295#32) (BitVec.ofNat 32 y) = BitVec.ofBool (decide (y < x)) := by
  revert x y; decide +kernel

end Cert.Masks
-- ==== Proof.RefMask.lean ====
/- The reference's triangular factors, entry by entry, at real arguments. -/
module

public import proofs.«01_k».proof.Proof.Stages
public import proofs.«01_k».proof.Proof.Reals
public import proofs.«01_k».proof.Proof.Consts
public import proofs.«01_k».proof.Proof.Masks
public import Idealize.ShloMosaic.Lib.Pointwise

@[expose] public section

set_option maxRecDepth 16384

noncomputable section

namespace Cert.ReferenceIdeal.Read

open Cert.ReferenceIdeal Cert.ReferenceIdeal.Gen Cert.ReferenceIdeal.Stages Cert.Reals Cert.Masks Cert.Scalars
open Idealize.ShloMosaic Idealize.ShloMosaic.StableHlo

/-- The mask strictly below the diagonal. -/
theorem below_eq : (cmpi .sge (addi (iotaInDim S64x64 32 0) (broadcastInDim S64x64 ![] bcast_S_S64x64 (constantI S_ 32 4294967295#32))) (iotaInDim S64x64 32 1) : IVec S64x64 1)
    = fun j => BitVec.ofBool (decide ((j 1 : Fin 64) < (j 0 : Fin 64))) := by
  funext j
  exact sge_pred_word (j 0) (j 1)

/-- The mask on the diagonal. -/
theorem diag_eq : (cmpi .eq (addi (iotaInDim S64x64 32 0) (broadcastInDim S64x64 ![] bcast_S_S64x64 (constantI S_ 32 0#32))) (iotaInDim S64x64 32 1) : IVec S64x64 1)
    = fun j => BitVec.ofBool (decide ((j 0 : Fin 64) = (j 1 : Fin 64))) := by
  funext j
  have h := eq_word (j 0) (j 1)
  rw [← h, ← BitVec.add_zero (BitVec.ofNat 32 ((j 0 : Fin 64) : ℕ))]
  rfl

/-- The mask on and below the diagonal. -/
theorem onBelow_eq : (cmpi .sge (addi (iotaInDim S64x64 32 0) (broadcastInDim S64x64 ![] bcast_S_S64x64 (constantI S_ 32 0#32))) (iotaInDim S64x64 32 1) : IVec S64x64 1)
    = fun j => BitVec.ofBool (decide ((j 1 : Fin 64) ≤ (j 0 : Fin 64))) := by
  funext j
  have h := sge_word (j 0) (j 1)
  rw [← h, ← BitVec.add_zero (BitVec.ofNat 32 ((j 0 : Fin 64) : ℕ))]
  rfl

/-- The lower factor, of reals, is the unit lower triangular factor. -/
theorem lower_eq (wl : S64x64.Idx → ℝ) : lowerU (up wl) = up (fun j => lowerE (fun a b => wl (ix2 a b)) (j 0) (j 1)) := by
  unfold lowerU
  rw [below_eq, diag_eq]
  funext j
  idx_vars j
  show _ = ((lowerE (fun a b => wl (ix2 a b)) j0 j1 : ℝ) : EReal)
  pointwise []
  show ((wl (ix2 j0 j1) : ℝ) : EReal) * (if j1 < j0 then 1 else 0) + (((BitVec.ofBool (decide (j0 = j1))).toNat : ℝ) : EReal) = _
  unfold lowerE
  by_cases h : j1 < j0
  · have h' : j0 ≠ j1 := by rintro rfl; exact lt_irrefl _ h
    simp [h, h']
  · by_cases h' : j0 = j1
    · subst h'; simp
    · simp [h, h']

/-- The upper factor, of reals, is the upper triangular factor with the signed exponentials on its diagonal. -/
theorem upper_eq (wu : S64x64.Idx → ℝ) (sg ws : S64.Idx → ℝ) :
    upperD (up wu) (up sg) (up ws) = up (fun j => upperE (fun a b => wu (ix2 a b)) (fun a => sg (ix1 a) * Real.exp (ws (ix1 a))) (j 0) (j 1)) := by
  unfold upperD
  rw [onBelow_eq, diag_eq]
  funext j
  idx_vars j
  show _ = ((upperE (fun a b => wu (ix2 a b)) (fun a => sg (ix1 a) * Real.exp (ws (ix1 a))) j0 j1 : ℝ) : EReal)
  pointwise []
  show ((wu (ix2 j0 j1) : ℝ) : EReal) * (if j1 ≤ j0 then 0 else 1)
      + (if j0 = j1 then ((sg (ix1 j0) : ℝ) : EReal) * ((Real.exp (ws (ix1 j0)) : ℝ) : EReal) else 0) = _
  unfold upperE
  by_cases h : j0 < j1
  · have h' : j0 ≠ j1 := by rintro rfl; exact lt_irrefl _ h
    simp [h, h', not_le.mpr h]
  · by_cases h' : j0 = j1
    · subst h'; simp
    · simp [h, h', not_lt.mp h]

/-- The reference's weight, of reals, is the mixing matrix. -/
theorem weight_eq (wp wl : S64x64.Idx → ℝ) (ws : S64.Idx → ℝ) (wu : S64x64.Idx → ℝ) (sg : S64.Idx → ℝ) :
    weight (up wp) (up wl) (up ws) (up wu) (up sg)
      = up (fun j => mixE (fun a b => wp (ix2 a b)) (fun a b => wl (ix2 a b)) (fun a b => wu (ix2 a b))
          (fun a => sg (ix1 a) * Real.exp (ws (ix1 a))) (j 0) (j 1)) := by
  unfold weight
  rw [lower_eq, upper_eq]
  funext j
  idx_vars j
  show _ = ((mixE (fun a b => wp (ix2 a b)) (fun a b => wl (ix2 a b)) (fun a b => wu (ix2 a b))
          (fun a => sg (ix1 a) * Real.exp (ws (ix1 a))) j0 j1 : ℝ) : EReal)
  pointwise []
  rw [mixE, coe_sum]
  refine Finset.sum_congr rfl fun j _ => ?_
  rw [EReal.coe_mul, coe_sum]
  refine congrArg₂ (· * ·) (Finset.sum_congr rfl fun k _ => ?_) rfl
  rw [EReal.coe_mul]
  rfl

end Cert.ReferenceIdeal.Read

end
-- ==== Proof.RefRead.lean ====
/- The reference's stages, entry by entry, at real arguments. -/
module

public import proofs.«01_k».proof.Proof.Stages
public import proofs.«01_k».proof.Proof.Reals
public import proofs.«01_k».proof.Proof.Consts
public import proofs.«01_k».proof.Proof.Masks
public import Idealize.ShloMosaic.Lib.Pointwise

@[expose] public section

set_option maxRecDepth 16384

noncomputable section

namespace Cert.ReferenceIdeal.Read

open Cert.ReferenceIdeal Cert.ReferenceIdeal.Gen Cert.ReferenceIdeal.Stages Cert.Reals Cert.Masks Cert.Scalars
open Idealize.ShloMosaic

/-- The mixed channels. -/
theorem mixed_at (x : S256x64x2048.Idx → ℝ) (loc sc : S1x64x1.Idx → ℝ) (wt : Fin 64 → Fin 64 → ℝ) (b : Fin 256) (i : Fin 64) (g : Fin 2048) :
    mixed (up x) (up loc) (up sc) (up (fun j => wt (j 0) (j 1))) (ix3 b i g)
      = ((mixedE wt (fun l => sc (ix3 0 l 0)) (fun l => loc (ix3 0 l 0)) (fun l => x (ix3 b l g)) i : ℝ) : EReal) := by
  pointwise [mixed]
  rw [mixedE, coe_sum]
  refine Finset.sum_congr rfl fun l _ => ?_
  rw [EReal.coe_mul, EReal.coe_mul, EReal.coe_add]
  rfl

/-- The hidden layer before its activation. -/
theorem hidden_at (mx he : S256x64x2048.Idx → ℝ) (w1 : S256x96.Idx → ℝ) (b1 : S256.Idx → ℝ) (b : Fin 256) (g : Fin 2048) (o : Fin 256) :
    Stages.hidden (up mx) (up he) (up w1) (up b1) (ix3 b g o)
      = ((hiddenE (fun o k => w1 (ix2 o k)) (fun o => b1 (ix1 o)) (fun k => he (ix3 b k g)) (fun k => mx (ix3 b k g)) o : ℝ) : EReal) := by
  pointwise [Stages.hidden]
  rw [hiddenE, EReal.coe_add, EReal.coe_add, coe_sum, coe_sum]
  refine congrArg₂ (· + ·) (congrArg₂ (· + ·) (Finset.sum_congr rfl fun k _ => ?_) (Finset.sum_congr rfl fun k _ => ?_)) rfl
  · rw [EReal.coe_mul]; rfl
  · rw [EReal.coe_mul]; rfl

/-- The activation. -/
theorem act_at (h : S256x2048x256.Idx → ℝ) (b : Fin 256) (g : Fin 2048) (o : Fin 256) :
    act (up h) (ix3 b g o) = ((geluR (h (ix3 b g o)) : ℝ) : EReal) := by
  pointwise [act]
  rw [Consts.half_f32, Consts.two_f32]
  exact gelu_erfc _

/-- The gates. -/
theorem gate_at (a : FVec Ideal S256x2048x256 .f32) (w2 : FVec Ideal S64x256 .f32) (b2 : FVec Ideal S64 .f32) (b : Fin 256) (i : Fin 64) (g : Fin 2048) :
    gate (net a w2 b2) (ix3 b i g) = Ideal.logistic (∑ o : Fin 256, a (ix3 b g o) * w2 (ix2 i o) + b2 (ix1 i)) := by
  pointwise [gate, net]
  rfl

/-- The first result's upper half. -/
theorem out_lo (gt mx : FVec Ideal S256x64x2048 .f32) (b : Fin 256) (i : Fin 32) (g : Fin 2048) :
    out gt mx (ix3 b ⟨i, by omega⟩ g) = Ideal.exp (gt (ix3 b ⟨i, by omega⟩ g)) * mx (ix3 b ⟨i, by omega⟩ g) + gt (ix3 b ⟨32 + i, by omega⟩ g) := by
  pointwise [out]

/-- The first result's lower half. -/
theorem out_hi (gt mx : FVec Ideal S256x64x2048 .f32) (b : Fin 256) (i : Fin 32) (g : Fin 2048) :
    out gt mx (ix3 b ⟨32 + i, by omega⟩ g) = mx (ix3 b ⟨32 + i, by omega⟩ g) := by
  pointwise [out]

/-- The second result. -/
theorem ld_at (gt : FVec Ideal S256x64x2048 .f32) (sc : FVec Ideal S1x64x1 .f32) (ws : FVec Ideal S64 .f32) (b : Fin 256) :
    ld gt sc ws (ix1 b) = ((2048 : ℝ) : EReal) * ∑ l : Fin 64, Ideal.log (FloatOps.absf (F := Ideal) (φ := .f32) (sc (ix3 0 l 0)))
      + ((2048 : ℝ) : EReal) * ∑ l : Fin 64, ws (ix1 l) + ∑ i : Fin 32, ∑ g : Fin 2048, gt (ix3 b ⟨i, by omega⟩ g) := by
  pointwise [ld]
  rw [Consts.n_f32]
  have e : ∑ x : Fin 65536, gt (ix3 b ⟨(x : ℕ) / 2048, by omega⟩ ⟨(x : ℕ) % 2048, by omega⟩)
      = ∑ i : Fin 32, ∑ g : Fin 2048, gt (ix3 b ⟨i, by omega⟩ g) := by
    rw [Fin.sum_univ_tiles 32 2048 (by norm_num)]
    refine Finset.sum_congr rfl fun i _ => Finset.sum_congr rfl fun g _ => ?_
    have h1 : ((i : ℕ) * 2048 + g) / 2048 = i := by omega
    have h2 : ((i : ℕ) * 2048 + g) % 2048 = g := by omega
    congr 2 <;> exact Fin.ext (by first | exact h1 | exact h2)
  refine congrArg₂ (· + ·) (congrArg₂ (· + ·) (congrArg _ ?_) rfl) e
  simp only [Fin.sum_univ_one]

end Cert.ReferenceIdeal.Read

end
-- ==== Proof.RefValue.lean ====
/- The reference's gates and mixed channels at real arguments. -/
module

public import proofs.«01_k».proof.Proof.RefMask
public import proofs.«01_k».proof.Proof.RefRead

@[expose] public section

noncomputable section

namespace Cert.ReferenceIdeal.Read

open Cert.ReferenceIdeal Cert.ReferenceIdeal.Gen Cert.ReferenceIdeal.Stages Cert.Reals Cert.Scalars
open Idealize.ShloMosaic

variable (x he : S256x64x2048.Idx → ℝ) (loc sc : S1x64x1.Idx → ℝ) (wp wl : S64x64.Idx → ℝ) (ws : S64.Idx → ℝ)
  (wu : S64x64.Idx → ℝ) (sg : S64.Idx → ℝ) (w1 : S256x96.Idx → ℝ) (b1 : S256.Idx → ℝ)

/-- The mixed channels, on the reals. -/
def mixedR (b : Fin 256) (g : Fin 2048) (i : Fin 64) : ℝ :=
  mixedE (mixE (fun a b => wp (ix2 a b)) (fun a b => wl (ix2 a b)) (fun a b => wu (ix2 a b))
      (fun a => sg (ix1 a) * Real.exp (ws (ix1 a))))
    (fun l => sc (ix3 0 l 0)) (fun l => loc (ix3 0 l 0)) (fun l => x (ix3 b l g)) i

/-- The hidden layer, on the reals. -/
def hiddenR (b : Fin 256) (g : Fin 2048) (o : Fin 256) : ℝ :=
  hiddenE (fun o k => w1 (ix2 o k)) (fun o => b1 (ix1 o)) (fun k => he (ix3 b k g)) (mixedR x loc sc wp wl ws wu sg b g) o

/-- The reference's mixed channels. -/
theorem mixed_eq : mixed (up x) (up loc) (up sc) (weight (up wp) (up wl) (up ws) (up wu) (up sg))
    = up (fun j => mixedR x loc sc wp wl ws wu sg (j 0) (j 2) (j 1)) := by
  rw [weight_eq]
  funext j
  idx_vars j
  exact mixed_at x loc sc _ j0 j1 j2

/-- The reference's activated hidden layer. -/
theorem act_eq : act (Stages.hidden (mixed (up x) (up loc) (up sc) (weight (up wp) (up wl) (up ws) (up wu) (up sg))) (up he) (up w1) (up b1))
    = up (fun j => geluR (hiddenR x he loc sc wp wl ws wu sg w1 b1 (j 0) (j 1) (j 2))) := by
  rw [mixed_eq]
  have e : Stages.hidden (up (fun j => mixedR x loc sc wp wl ws wu sg (j 0) (j 2) (j 1))) (up he) (up w1) (up b1)
      = up (fun j => hiddenR x he loc sc wp wl ws wu sg w1 b1 (j 0) (j 1) (j 2)) := by
    funext j
    idx_vars j
    exact hidden_at _ he w1 b1 j0 j1 j2
  rw [e]
  funext j
  idx_vars j
  exact act_at _ j0 j1 j2

/-- The reference's gates. -/
theorem gates_at (w2 : FVec Ideal S64x256 .f32) (b2 : FVec Ideal S64 .f32) (b : Fin 256) (i : Fin 64) (g : Fin 2048) :
    gates (up x) (up he) (up loc) (up sc) (up wp) (up wl) (up ws) (up wu) (up sg) (up w1) (up b1) w2 b2 (ix3 b i g)
      = Ideal.logistic (∑ o : Fin 256, ((geluR (hiddenR x he loc sc wp wl ws wu sg w1 b1 b g o) : ℝ) : EReal) * w2 (ix2 i o) + b2 (ix1 i)) := by
  unfold gates
  rw [act_eq]
  exact gate_at _ w2 b2 b i g

end Cert.ReferenceIdeal.Read

end
-- ==== Proof.Items.lean ====
/- The main kernel's block is sixteen items, each computed alike from its own slice of the two inputs. Here the program's
   sixteen written-out copies are recognised as one function of the slice. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Items

open Cert.KernelIdeal Cert.KernelIdeal.Gen
open Idealize.ShloMosaic Idealize.ShloMosaic.TcCoe

variable {F : FTy → Type} [FloatOps F] [Named F]

/-- Item `b` of a block, as an array of one item. -/
def slice (x : Vec F S16x64x2048 .f32) (b : Fin 16) : Vec F S1x64x2048 .f32 := fun j => x (ix3 b (j 1) (j 2))

/-- The upper half of an item's output: the scaled and shifted half of the coupling. -/
def upper (wc : Vec F S320x129 .bf16) (w2 : Vec F S64x256 .bf16) (b2 : Vec F S64x1 .bf16) (xa xb : Vec F S1x64x2048 .f32) :
    Vec F S1x32x2048 .f32 :=
  k1_pay11 (k1_pay7 wc xa xb) (k1_pay9 wc w2 b2 xa xb) (k1_pay10 wc w2 b2 xa xb)

/-- The lower half of an item's output: the half the coupling passes through. -/
def lower (wc : Vec F S320x129 .bf16) (xa xb : Vec F S1x64x2048 .f32) : Vec F S1x32x2048 .f32 := k1_pay12 (k1_pay8 wc xa xb)

/-- An item's log-determinant, from the constant part `l0`. -/
def logdet (wc : Vec F S320x129 .bf16) (w2 : Vec F S64x256 .bf16) (b2 : Vec F S64x1 .bf16) (l0 : F .f32)
    (xa xb : Vec F S1x64x2048 .f32) : Vec F S1x1x1 .f32 :=
  k1_pay13 l0 (k1_pay10 wc w2 b2 xa xb)

/-- Loading the rectangle of item `k` is taking the slice. -/
theorem ld_slice (x : Vec F S16x64x2048 .f32) (k : ℕ) (inb : ∀ a, (![k, 0, 0] : Fin 3 → ℕ) a + S1x64x2048.size a ≤ S16x64x2048.size a)
    (b : Fin 16) (hb : (b : ℕ) = k) :
    View.ld x (Rect.unit (s := S16x64x2048) ![k, 0, 0] S1x64x2048.size inb) = slice x b := by
  funext j
  refine View.ld_unit_apply_of x _ _ inb j (ix3 b (j 1) (j 2)) fun a => ?_
  have h0 : (j 0 : ℕ) < 1 := (j 0).isLt
  fin_cases a
  · show (b : ℕ) = k + (j 0 : ℕ); omega
  · show (j 1 : ℕ) = 0 + (j 1 : ℕ); omega
  · show (j 2 : ℕ) = 0 + (j 2 : ℕ); omega

/-- Item `k`'s rectangle lies inside the block, `k` being at most the place of an entry. -/
theorem item_inb {b k n : ℕ} (hb : b < 16) (h0 : b = k + n) :
    ∀ a, (![k, 0, 0] : Fin 3 → ℕ) a + S1x64x2048.size a ≤ S16x64x2048.size a := by
  intro a
  fin_cases a
  · show k + 1 ≤ 16; omega
  · show 0 + 64 ≤ 64; omega
  · show 0 + 2048 ≤ 2048; omega

/-- The main kernel's first output block at an index, as a function of the item's slices. -/
def outAt (x0 x1 : Vec F S16x64x2048 .f32) (wc : Vec F S320x129 .bf16) (w2 : Vec F S64x256 .bf16) (b2 : Vec F S64x1 .bf16)
    (y : S16x64x2048.Idx) : F .f32 :=
  if h : (y 1 : ℕ) < 32 then upper wc w2 b2 (slice x0 (y 0)) (slice x1 (y 0)) (ix3 0 ⟨y 1, h⟩ (y 2))
  else lower wc (slice x0 (y 0)) (slice x1 (y 0)) (ix3 0 ⟨(y 1 : ℕ) - 32, by have : (y 1 : ℕ) < 64 := (y 1).isLt; omega⟩ (y 2))

/-- The upper half's payload of item `k` is `outAt` there. -/
theorem upper_at (x0 x1 : Vec F S16x64x2048 .f32) (wc : Vec F S320x129 .bf16) (w2 : Vec F S64x256 .bf16)
    (b2 : Vec F S64x1 .bf16) (k : ℕ) (y : S16x64x2048.Idx) (x : S1x32x2048.Idx) (h0 : (y 0 : ℕ) = k + (x 0 : ℕ)) (h1 : (y 1 : ℕ) = x 1) (h2 : (y 2 : ℕ) = x 2) :
    upper wc w2 b2 (View.ld x0 (Rect.unit (s := S16x64x2048) ![k, 0, 0] S1x64x2048.size (item_inb (y 0).isLt h0)))
      (View.ld x1 (Rect.unit (s := S16x64x2048) ![k, 0, 0] S1x64x2048.size (item_inb (y 0).isLt h0))) x = outAt x0 x1 wc w2 b2 y := by
  have hx0 : (x 0 : ℕ) < 1 := (x 0).isLt
  have hx1 : (x 1 : ℕ) < 32 := (x 1).isLt
  have hb : ((y 0 : Fin 16) : ℕ) = k := by omega
  rw [ld_slice x0 k _ (y 0) hb, ld_slice x1 k _ (y 0) hb, outAt, dif_pos (by omega)]
  congr 1
  funext a
  apply Fin.ext
  fin_cases a
  · show (x 0 : ℕ) = 0; omega
  · exact h1.symm
  · exact h2.symm

/-- The lower half's payload of item `k` is `outAt` there. -/
theorem lower_at (x0 x1 : Vec F S16x64x2048 .f32) (wc : Vec F S320x129 .bf16) (w2 : Vec F S64x256 .bf16)
    (b2 : Vec F S64x1 .bf16) (k : ℕ) (y : S16x64x2048.Idx) (x : S1x32x2048.Idx) (h0 : (y 0 : ℕ) = k + (x 0 : ℕ)) (h1 : (y 1 : ℕ) = 32 + (x 1 : ℕ))
    (h2 : (y 2 : ℕ) = x 2) :
    lower wc (View.ld x0 (Rect.unit (s := S16x64x2048) ![k, 0, 0] S1x64x2048.size (item_inb (y 0).isLt h0)))
      (View.ld x1 (Rect.unit (s := S16x64x2048) ![k, 0, 0] S1x64x2048.size (item_inb (y 0).isLt h0))) x = outAt x0 x1 wc w2 b2 y := by
  have hx0 : (x 0 : ℕ) < 1 := (x 0).isLt
  have hb : ((y 0 : Fin 16) : ℕ) = k := by omega
  rw [ld_slice x0 k _ (y 0) hb, ld_slice x1 k _ (y 0) hb, outAt, dif_neg (by omega)]
  congr 1
  funext a
  apply Fin.ext
  fin_cases a
  · show (x 0 : ℕ) = 0; omega
  · show (x 1 : ℕ) = (y 1 : ℕ) - 32; omega
  · exact h2.symm

/-- The log-determinant's payload of item `k`. -/
theorem logdet_at (x0 x1 : Vec F S16x64x2048 .f32) (wc : Vec F S320x129 .bf16) (w2 : Vec F S64x256 .bf16)
    (b2 : Vec F S64x1 .bf16) (l0 : F .f32) (k : ℕ) (y : S16x1x1.Idx) (x : S1x1x1.Idx) (h0 : (y 0 : ℕ) = k + (x 0 : ℕ)) :
    logdet wc w2 b2 l0 (View.ld x0 (Rect.unit (s := S16x64x2048) ![k, 0, 0] S1x64x2048.size (item_inb (y 0).isLt h0)))
      (View.ld x1 (Rect.unit (s := S16x64x2048) ![k, 0, 0] S1x64x2048.size (item_inb (y 0).isLt h0))) x
    = logdet wc w2 b2 l0 (slice x0 (y 0)) (slice x1 (y 0)) (ix3 0 0 0) := by
  have hx0 : (x 0 : ℕ) < 1 := (x 0).isLt
  have hb : ((y 0 : Fin 16) : ℕ) = k := by omega
  rw [ld_slice x0 k _ (y 0) hb, ld_slice x1 k _ (y 0) hb]
  congr 1
  funext a
  apply Fin.ext
  fin_cases a
  · show (x 0 : ℕ) = 0; omega
  · have : (x 1 : ℕ) < 1 := (x 1).isLt
    show (x 1 : ℕ) = 0; omega
  · have : (x 2 : ℕ) < 1 := (x 2).isLt
    show (x 2 : ℕ) = 0; omega

set_option maxHeartbeats 4000000 in
/-- The main kernel's first output block, index by index. -/
theorem out1_6_at (x0 x1 : Vec F S16x64x2048 .f32) (x2 : Vec F S320x129 .bf16) (x3 : Vec F S64x256 .bf16)
    (x4 : Vec F S64x1 .bf16) (x5 : Vec F S1x1 .f32) (y : S16x64x2048.Idx) :
    out1_6 x0 x1 x2 x3 x4 x5 y = outAt x0 x1 (View.ld x2 r1_0) (View.ld x3 r1_1) (View.ld x4 r1_2) y := by
  canon_tiles x h
  case piece31 => exact upper_at x0 x1 _ _ _ 0 y x (by omega) h1 h2
  case piece30 => exact lower_at x0 x1 _ _ _ 0 y x (by omega) h1 h2
  all_goals first
    | (have e := upper_at x0 x1 (View.ld x2 r1_0) (View.ld x3 r1_1) (View.ld x4 r1_2) _ y x h0 h1 h2; exact e)
    | (have e := lower_at x0 x1 (View.ld x2 r1_0) (View.ld x3 r1_1) (View.ld x4 r1_2) _ y x h0 h1 h2; exact e)

set_option maxHeartbeats 4000000 in
/-- The main kernel's second output block, index by index. -/
theorem out1_7_at (x0 x1 : Vec F S16x64x2048 .f32) (x2 : Vec F S320x129 .bf16) (x3 : Vec F S64x256 .bf16)
    (x4 : Vec F S64x1 .bf16) (x5 : Vec F S1x1 .f32) (y : S16x1x1.Idx) :
    out1_7 x0 x1 x2 x3 x4 x5 y = logdet (View.ld x2 r1_0) (View.ld x3 r1_1) (View.ld x4 r1_2) (k1_pay4 (View.ld x5 r1_3))
      (slice x0 (y 0)) (slice x1 (y 0)) (ix3 0 0 0) := by
  canon_tiles x h
  case piece15 => exact logdet_at x0 x1 _ _ _ _ 0 y x (by omega)
  all_goals
    (have e := logdet_at x0 x1 (View.ld x2 r1_0) (View.ld x3 r1_1) (View.ld x4 r1_2) (k1_pay4 (View.ld x5 r1_3)) _ y x h0; exact e)

end Cert.KernelIdeal.Items

end
-- ==== Proof.Arrays.lean ====
/- What the two kernels leave in their result arrays, as functions of the arrays they are entered with. -/
module

public import proofs.«01_k».proof.Proof.Items

@[expose] public section

set_option maxRecDepth 16384

noncomputable section

namespace Cert.KernelIdeal.Arrays

open Cert.KernelIdeal Cert.KernelIdeal.Gen Cert.KernelIdeal.Items
open Idealize.ShloMosaic Idealize.ShloMosaic.TcCoe
open Idealize.ShloMosaic.Pipeline (Dat)

variable (V : (c : Dev nD) → (b : Ref sig .tc) → Buf (Elt Ideal) ((c : Thread nD τ).loc b))

/-- Item `b` of a whole array, as an array of one item. -/
def item (x : Vec Ideal S256x64x2048 .f32) (b : Fin 256) : Vec Ideal S1x64x2048 .f32 := fun j => x (ix3 b (j 1) (j 2))

/-- The flow's output array, item by item. -/
def flow (x h : Vec Ideal S256x64x2048 .f32) (wc : Vec Ideal S320x129 .bf16) (w2 : Vec Ideal S64x256 .bf16)
    (b2 : Vec Ideal S64x1 .bf16) : Vec Ideal S256x64x2048 .f32 := fun i =>
  if hi : (i 1 : ℕ) < 32 then upper wc w2 b2 (item x (i 0)) (item h (i 0)) (ix3 0 ⟨i 1, hi⟩ (i 2))
  else lower wc (item x (i 0)) (item h (i 0)) (ix3 0 ⟨(i 1 : ℕ) - 32, by have : (i 1 : ℕ) < 64 := (i 1).isLt; omega⟩ (i 2))

/-- The log-determinants, item by item. -/
def flowLd (x h : Vec Ideal S256x64x2048 .f32) (wc : Vec Ideal S320x129 .bf16) (w2 : Vec Ideal S64x256 .bf16)
    (b2 : Vec Ideal S64x1 .bf16) (l0 : Vec Ideal S1x1 .f32) : Vec Ideal S256x1x1 .f32 := fun i =>
  logdet wc w2 b2 (k1_pay4 l0) (item x (i 0)) (item h (i 0)) (ix3 0 0 0)

/-- The windows' index maps of the main kernel. -/
theorem idx : ∀ t : Fin cfg1.N, win1_0.index t = ![t.val, 0, 0] ∧ win1_1.index t = ![t.val, 0, 0] ∧ win1_2.index t = ![0, 0]
    ∧ win1_3.index t = ![0, 0] ∧ win1_4.index t = ![0, 0] ∧ win1_5.index t = ![0, 0] ∧ win1_6.index t = ![t.val, 0, 0]
    ∧ win1_7.index t = ![t.val, 0, 0] :=
  (by decide +kernel : ∀ t : Fin grid1.N, _)

/-- The windows' index maps of the prologue. -/
theorem idx0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

/-! Each window over a whole array reads that array. -/

theorem whole0_0 (c : Dev nD) (t : Fin cfg0.N) : (iblk0 V c 0 t : Vec Ideal S64x64 .f32) = V c main_arg4 := by
  funext x; blk_ext [iblk0, idx0 t]
theorem whole0_1 (c : Dev nD) (t : Fin cfg0.N) : (iblk0 V c 1 t : Vec Ideal S64x64 .f32) = V c main_arg5 := by
  funext x; blk_ext [iblk0, idx0 t]
theorem whole0_2 (c : Dev nD) (t : Fin cfg0.N) : (iblk0 V c 2 t : Vec Ideal S1x64 .f32) = V c main_call0_v0 := by
  funext x; blk_ext [iblk0, idx0 t]
theorem whole0_3 (c : Dev nD) (t : Fin cfg0.N) : (iblk0 V c 3 t : Vec Ideal S64x64 .f32) = V c main_arg7 := by
  funext x; blk_ext [iblk0, idx0 t]
theorem whole0_4 (c : Dev nD) (t : Fin cfg0.N) : (iblk0 V c 4 t : Vec Ideal S1x64 .f32) = V c main_call0_v1 := by
  funext x; blk_ext [iblk0, idx0 t]
theorem whole0_5 (c : Dev nD) (t : Fin cfg0.N) : (iblk0 V c 5 t : Vec Ideal S1x64 .f32) = V c main_call0_v2 := by
  funext x; blk_ext [iblk0, idx0 t]
theorem whole0_6 (c : Dev nD) (t : Fin cfg0.N) : (iblk0 V c 6 t : Vec Ideal S1x64 .f32) = V c main_call0_v3 := by
  funext x; blk_ext [iblk0, idx0 t]
theorem whole0_7 (c : Dev nD) (t : Fin cfg0.N) : (iblk0 V c 7 t : Vec Ideal S256x96 .f32) = V c main_arg9 := by
  funext x; blk_ext [iblk0, idx0 t]
theorem whole0_8 (c : Dev nD) (t : Fin cfg0.N) : (iblk0 V c 8 t : Vec Ideal S256x1 .f32) = V c main_call0_v4 := by
  funext x; blk_ext [iblk0, idx0 t]
theorem whole1_2 (c : Dev nD) (t : Fin cfg1.N) : (iblk1 V c 2 t : Vec Ideal S320x129 .bf16) = V c main_call0_v5_0 := by
  funext x; blk_ext [iblk1, idx t]
theorem whole1_3 (c : Dev nD) (t : Fin cfg1.N) : (iblk1 V c 3 t : Vec Ideal S64x256 .bf16) = V c main_call0_v6 := by
  funext x; blk_ext [iblk1, idx t]
theorem whole1_4 (c : Dev nD) (t : Fin cfg1.N) : (iblk1 V c 4 t : Vec Ideal S64x1 .bf16) = V c main_call0_v8 := by
  funext x; blk_ext [iblk1, idx t]
theorem whole1_5 (c : Dev nD) (t : Fin cfg1.N) : (iblk1 V c 5 t : Vec Ideal S1x1 .f32) = V c main_call0_v5_1 := by
  funext x; blk_ext [iblk1, idx t]
theorem load1_2 (c : Dev nD) (t : Fin cfg1.N) : (View.ld (iblk1 V c 2 t) r1_0 : Vec Ideal S320x129 .bf16) = V c main_call0_v5_0 :=
  (View.ld_unit_lit (S := S320x129) _ _ (by decide)).trans (whole1_2 V c t)
theorem load1_3 (c : Dev nD) (t : Fin cfg1.N) : (View.ld (iblk1 V c 3 t) r1_1 : Vec Ideal S64x256 .bf16) = V c main_call0_v6 :=
  (View.ld_unit_lit (S := S64x256) _ _ (by decide)).trans (whole1_3 V c t)
theorem load1_4 (c : Dev nD) (t : Fin cfg1.N) : (View.ld (iblk1 V c 4 t) r1_2 : Vec Ideal S64x1 .bf16) = V c main_call0_v8 :=
  (View.ld_unit_lit (S := S64x1) _ _ (by decide)).trans (whole1_4 V c t)
theorem load1_5 (c : Dev nD) (t : Fin cfg1.N) : (View.ld (iblk1 V c 5 t) r1_3 : Vec Ideal S1x1 .f32) = V c main_call0_v5_1 :=
  (View.ld_unit_lit (S := S1x1) _ _ (by decide)).trans (whole1_5 V c t)
/-- An item of point `t`'s block of input 0 is an item of the array. -/
theorem slice1_0 (c : Dev nD) (t : Fin cfg1.N) (b : Fin 16) (b' : Fin 256) (hb : (b' : ℕ) = t.val * 16 + b) :
    slice (F := Ideal) (iblk1 V c 0 t) b = item (V c main_arg0) b' := by
  funext x; unfold slice item; blk_ext [iblk1, idx t]
/-- An item of point `t`'s block of input 1 is an item of the array. -/
theorem slice1_1 (c : Dev nD) (t : Fin cfg1.N) (b : Fin 16) (b' : Fin 256) (hb : (b' : ℕ) = t.val * 16 + b) :
    slice (F := Ideal) (iblk1 V c 1 t) b = item (V c main_arg1) b' := by
  funext x; unfold slice item; blk_ext [iblk1, idx t]

/-- The main kernel's first result array. -/
theorem arr1_6 (c : Dev nD) : (dat1 V c).arrAt 6 cfg1.N
    = flow (V c main_arg0) (V c main_arg1) (V c main_call0_v5_0) (V c main_call0_v6) (V c main_call0_v8) := by
  refine (dat1 V c).arrAt_eq_of_covers 6 _ (by decide +kernel) fun t hf y => ?_
  blk_simp
  rw [after1_6, out1_6_at]
  have e0 : ((win1_6.blk t).view.emb y 0 : ℕ) = t.val * 16 + (y 0 : ℕ) := by blk_simp [idx t]
  have e1 : ((win1_6.blk t).view.emb y 1 : ℕ) = (y 1 : ℕ) := by blk_simp [idx t]
  have e2 : ((win1_6.blk t).view.emb y 2 : ℕ) = (y 2 : ℕ) := by blk_simp [idx t]
  generalize (win1_6.blk t).view.emb y = i at e0 e1 e2
  rw [load1_2, load1_3, load1_4]
  have ht : t.val < 16 := t.isLt
  unfold outAt flow
  rw [slice1_0 V c t (y 0) (i 0) e0, slice1_1 V c t (y 0) (i 0) e0]
  have hc : ((i 1 : ℕ) < 32) = ((y 1 : ℕ) < 32) := by rw [e1]
  by_cases h : (y 1 : ℕ) < 32
  · rw [dif_pos h, dif_pos (hc ▸ h)]
    congr 1
    exact congrArg₂ (ix3 0) (Fin.ext e1.symm) (Fin.ext e2.symm)
  · rw [dif_neg h, dif_neg (hc ▸ h)]
    congr 1
    exact congrArg₂ (ix3 0) (Fin.ext (congrArg (· - 32) e1.symm)) (Fin.ext e2.symm)

/-- The main kernel's second result array. -/
theorem arr1_7 (c : Dev nD) : (dat1 V c).arrAt 7 cfg1.N
    = flowLd (V c main_arg0) (V c main_arg1) (V c main_call0_v5_0) (V c main_call0_v6) (V c main_call0_v8) (V c main_call0_v5_1) := by
  refine (dat1 V c).arrAt_eq_of_covers 7 _ (by decide +kernel) fun t hf y => ?_
  blk_simp
  rw [after1_7, out1_7_at]
  have e0 : ((win1_7.blk t).view.emb y 0 : ℕ) = t.val * 16 + (y 0 : ℕ) := by blk_simp [idx t]
  generalize (win1_7.blk t).view.emb y = i at e0
  rw [load1_2, load1_3, load1_4, load1_5]
  unfold flowLd
  rw [slice1_0 V c t (y 0) (i 0) e0, slice1_1 V c t (y 0) (i 0) e0]

/-- The prologue's first result array. -/
theorem arr0_9 (c : Dev nD) : (dat0 V c).arrAt 9 cfg0.N
    = k0_pay1 (k0_pay6 (V c main_call0_v0) (V c main_call0_v1) (V c main_arg5) (V c main_arg7) (V c main_arg4) (V c main_call0_v2))
        (k0_pay7 (V c main_call0_v0) (V c main_call0_v1) (V c main_arg5) (V c main_arg7) (V c main_arg4) (V c main_call0_v2) (V c main_call0_v3))
        (k0_pay8 (V c main_arg9)) (k0_pay9 (V c main_arg9))
        (k0_pay10 (V c main_call0_v0) (V c main_call0_v1) (V c main_arg5) (V c main_arg7) (V c main_arg4) (V c main_call0_v2))
        (V c main_call0_v4) := by
  refine (dat0 V c).arrAt_eq_of_after_last 9 t0_0 (by decide +kernel) _ fun j => ?_
  blk_simp
  rw [after0_9]
  frame_out
  rw [whole0_0, whole0_1, whole0_2, whole0_3, whole0_4, whole0_5, whole0_6, whole0_7, whole0_8]

/-- The prologue's second result array. -/
theorem arr0_10 (c : Dev nD) : (dat0 V c).arrAt 10 cfg0.N
    = k0_pay2 (k0_pay3 (V c main_call0_v0)) (k0_pay5 (V c main_call0_v2)) := by
  refine (dat0 V c).arrAt_eq_of_after_last 10 t0_0 (by decide +kernel) _ fun j => ?_
  blk_simp
  rw [after0_10]
  frame_out
  rw [whole0_2, whole0_5]

end Cert.KernelIdeal.Arrays

end
-- ==== Proof.Ends.lean ====
/- The idealized kernel's run with the contents of every buffer at its end: the launch of the generated frame, read with
   the last boundary's contents `W5` kept instead of forgotten. -/
module

public import proofs.«01_k».proof.Proof.Gen.KernelIdeal.Frame

@[expose] public section

set_option maxRecDepth 16384

noncomputable section

namespace Cert.KernelIdeal.Ends

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with each unscoped buffer at the contents of the last boundary. -/
theorem ends : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Cert.KernelIdeal.Ends

end
-- ==== Proof.Values.lean ====
/- The two result arrays of the idealized kernel at the end of a run, as functions of the arguments. -/
module

public import proofs.«01_k».proof.Proof.Arrays
public import proofs.«01_k».proof.Proof.Ends
public import Idealize.ShloMosaic.Lib.StableHlo.Run

@[expose] public section

set_option maxRecDepth 16384

noncomputable section

namespace Cert.KernelIdeal.Values

open Cert.KernelIdeal Cert.KernelIdeal.Gen Cert.KernelIdeal.Items Cert.KernelIdeal.Arrays
open Idealize.ShloMosaic Idealize.ShloMosaic.TcCoe Idealize.ShloMosaic.StableHlo Idealize.SL.Sem

variable (m : (ℓ : Loc nD τ sig) → Buf (Elt Ideal) ℓ) (ρ : Dev nD → PrngReg)

/-! The reshaped arguments the prologue is entered with. -/

theorem V1_v0 (c : Dev nD) : (V1 m ρ c main_call0_v0 : Vec Ideal S1x64 .f32)
    = shapeCast S1x64 (m ((c : Thread nD τ).loc main_arg6) : Vec Ideal S64 .f32) shapeCasts_S64_S1x64 := by
  show StableHlo.after hostOps0 (W0 m ρ c) (Proc.devRef .tc main_call0_v0) = _
  simp only [hostOps0, TRef.reshape, TRef.unary, TRef.toBuf, TRef.ofBuf, cast_eq]
  after_results_simp <;> rfl

theorem V1_v1 (c : Dev nD) : (V1 m ρ c main_call0_v1 : Vec Ideal S1x64 .f32)
    = shapeCast S1x64 (m ((c : Thread nD τ).loc main_arg8) : Vec Ideal S64 .f32) shapeCasts_S64_S1x64 := by
  show StableHlo.after hostOps0 (W0 m ρ c) (Proc.devRef .tc main_call0_v1) = _
  simp only [hostOps0, TRef.reshape, TRef.unary, TRef.toBuf, TRef.ofBuf, cast_eq]
  after_results_simp <;> rfl

theorem V1_v2 (c : Dev nD) : (V1 m ρ c main_call0_v2 : Vec Ideal S1x64 .f32)
    = shapeCast S1x64 (m ((c : Thread nD τ).loc main_arg3) : Vec Ideal S1x64x1 .f32) shapeCasts_S1x64x1_S1x64 := by
  show StableHlo.after hostOps0 (W0 m ρ c) (Proc.devRef .tc main_call0_v2) = _
  simp only [hostOps0, TRef.reshape, TRef.unary, TRef.toBuf, TRef.ofBuf, cast_eq]
  after_results_simp <;> rfl

theorem V1_v3 (c : Dev nD) : (V1 m ρ c main_call0_v3 : Vec Ideal S1x64 .f32)
    = shapeCast S1x64 (m ((c : Thread nD τ).loc main_arg2) : Vec Ideal S1x64x1 .f32) shapeCasts_S1x64x1_S1x64 := by
  show StableHlo.after hostOps0 (W0 m ρ c) (Proc.devRef .tc main_call0_v3) = _
  simp only [hostOps0, TRef.reshape, TRef.unary, TRef.toBuf, TRef.ofBuf, cast_eq]
  after_results_simp <;> rfl

theorem V1_v4 (c : Dev nD) : (V1 m ρ c main_call0_v4 : Vec Ideal S256x1 .f32)
    = shapeCast S256x1 (m ((c : Thread nD τ).loc main_arg10) : Vec Ideal S256 .f32) shapeCasts_S256_S256x1 := by
  show StableHlo.after hostOps0 (W0 m ρ c) (Proc.devRef .tc main_call0_v4) = _
  simp only [hostOps0, TRef.reshape, TRef.unary, TRef.toBuf, TRef.ofBuf, cast_eq]
  after_results_simp <;> rfl

/-! The converted arguments the main kernel is entered with. -/

/-- The last layer's weight, converted. -/
def cvtW2 (a : Vec Ideal S64x256 .f32) : Vec Ideal S64x256 .bf16 := truncf (F := Ideal) .bf16 a bitsLt_bf16_f32

/-- The last layer's bias, as a column and converted. -/
def cvtB2 (a : Vec Ideal S64 .f32) : Vec Ideal S64x1 .bf16 :=
  truncf (F := Ideal) .bf16 (shapeCast S64x1 a shapeCasts_S64_S64x1) bitsLt_bf16_f32

theorem V3_v6 (c : Dev nD) : (V3 m ρ c main_call0_v6 : Vec Ideal S64x256 .bf16)
    = cvtW2 (m ((c : Thread nD τ).loc main_arg11)) := by
  refine Eq.trans ?_ (congrArg cvtW2 (W2_args m ρ c main_arg11 (by decide)))
  show StableHlo.after hostOps1 (W2 m ρ c) (Proc.devRef .tc main_call0_v6) = _
  simp only [hostOps1, TRef.reshape, TRef.unary, TRef.toBuf, TRef.ofBuf, cast_eq]
  after_results_simp <;> rfl

theorem V3_v8 (c : Dev nD) : (V3 m ρ c main_call0_v8 : Vec Ideal S64x1 .bf16)
    = cvtB2 (m ((c : Thread nD τ).loc main_arg12)) := by
  refine Eq.trans ?_ (congrArg cvtB2 (W2_args m ρ c main_arg12 (by decide)))
  show StableHlo.after hostOps1 (W2 m ρ c) (Proc.devRef .tc main_call0_v8) = _
  simp only [hostOps1, TRef.reshape, TRef.unary, TRef.toBuf, TRef.ofBuf, cast_eq]
  after_results_simp <;> rfl

/-! ## The fused weight and the constant part of the log-determinant, as functions of the arguments -/

/-- The fused weight the prologue leaves, from the arguments. -/
def fused (loc scale : Vec Ideal S1x64x1 .f32) (wp wl : Vec Ideal S64x64 .f32) (ws : Vec Ideal S64 .f32)
    (wu : Vec Ideal S64x64 .f32) (sg : Vec Ideal S64 .f32) (w1 : Vec Ideal S256x96 .f32) (b1 : Vec Ideal S256 .f32) :
    Vec Ideal S320x129 .bf16 :=
  let s0 := shapeCast S1x64 ws shapeCasts_S64_S1x64
  let s1 := shapeCast S1x64 sg shapeCasts_S64_S1x64
  let s2 := shapeCast S1x64 scale shapeCasts_S1x64x1_S1x64
  let s3 := shapeCast S1x64 loc shapeCasts_S1x64x1_S1x64
  k0_pay1 (k0_pay6 s0 s1 wl wu wp s2) (k0_pay7 s0 s1 wl wu wp s2 s3) (k0_pay8 w1) (k0_pay9 w1) (k0_pay10 s0 s1 wl wu wp s2)
    (shapeCast S256x1 b1 shapeCasts_S256_S256x1)

/-- The log-determinant's constant part the prologue leaves, from the arguments. -/
def fusedLd (scale : Vec Ideal S1x64x1 .f32) (ws : Vec Ideal S64 .f32) : Vec Ideal S1x1 .f32 :=
  k0_pay2 (k0_pay3 (shapeCast S1x64 ws shapeCasts_S64_S1x64)) (k0_pay5 (shapeCast S1x64 scale shapeCasts_S1x64x1_S1x64))

theorem V3_v5_0 (c : Dev nD) : (V3 m ρ c main_call0_v5_0 : Vec Ideal S320x129 .bf16)
    = fused (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  refine (W3_of m ρ c main_call0_v5_0 (by decide)).trans ((W2_arr m ρ c 9).trans ((arr0_9 (V1 m ρ) c).trans ?_))
  rw [V1_v0, V1_v1, V1_v2, V1_v3, V1_v4]
  rw [show V1 m ρ c main_arg4 = _ from W1_args m ρ c main_arg4 (by decide),
    show V1 m ρ c main_arg5 = _ from W1_args m ρ c main_arg5 (by decide),
    show V1 m ρ c main_arg7 = _ from W1_args m ρ c main_arg7 (by decide),
    show V1 m ρ c main_arg9 = _ from W1_args m ρ c main_arg9 (by decide)]
  rfl

theorem V3_v5_1 (c : Dev nD) : (V3 m ρ c main_call0_v5_1 : Vec Ideal S1x1 .f32)
    = fusedLd (m ((c : Thread nD τ).loc main_arg3)) (m ((c : Thread nD τ).loc main_arg6)) := by
  refine (W3_of m ρ c main_call0_v5_1 (by decide)).trans ((W2_arr m ρ c 10).trans ((arr0_10 (V1 m ρ) c).trans ?_))
  rw [V1_v0, V1_v2]
  rfl

/-- The first result array's value. -/
def val0 (c : Dev nD) : Vec Ideal S256x64x2048 .f32 :=
  flow (m ((c : Thread nD τ).loc main_arg0)) (m ((c : Thread nD τ).loc main_arg1))
    (fused (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)))
    (cvtW2 (m ((c : Thread nD τ).loc main_arg11)))
    (cvtB2 (m ((c : Thread nD τ).loc main_arg12)))

/-- The second result array's value. -/
def val1 (c : Dev nD) : Vec Ideal S256 .f32 :=
  shapeCast S256 (flowLd (m ((c : Thread nD τ).loc main_arg0)) (m ((c : Thread nD τ).loc main_arg1))
    (fused (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)))
    (cvtW2 (m ((c : Thread nD τ).loc main_arg11)))
    (cvtB2 (m ((c : Thread nD τ).loc main_arg12)))
    (fusedLd (m ((c : Thread nD τ).loc main_arg3)) (m ((c : Thread nD τ).loc main_arg6)))) shapeCasts_S256x1x1_S256

theorem W5_v0_0 (c : Dev nD) : W5 m ρ c (Proc.devRef .tc main_v0_0) = val0 m c := by
  refine (W5_of m ρ c main_v0_0 (by decide)).trans ((W4_arr m ρ c 6).trans ((arr1_6 (V3 m ρ) c).trans ?_))
  rw [V3_v5_0, V3_v6, V3_v8]
  rw [show V3 m ρ c main_arg0 = _ from W3_args m ρ c main_arg0 (by decide),
    show V3 m ρ c main_arg1 = _ from W3_args m ρ c main_arg1 (by decide)]
  rfl

theorem W4_v9_1 (c : Dev nD) : (W4 m ρ c (Proc.devRef .tc main_call0_v9_1) : Vec Ideal S256x1x1 .f32) =
    flowLd (m ((c : Thread nD τ).loc main_arg0)) (m ((c : Thread nD τ).loc main_arg1))
    (fused (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)))
    (cvtW2 (m ((c : Thread nD τ).loc main_arg11)))
    (cvtB2 (m ((c : Thread nD τ).loc main_arg12)))
    (fusedLd (m ((c : Thread nD τ).loc main_arg3)) (m ((c : Thread nD τ).loc main_arg6))) := by
  refine (W4_arr m ρ c 7).trans ((arr1_7 (V3 m ρ) c).trans ?_)
  rw [V3_v5_0, V3_v5_1, V3_v6, V3_v8]
  rw [show V3 m ρ c main_arg0 = _ from W3_args m ρ c main_arg0 (by decide),
    show V3 m ρ c main_arg1 = _ from W3_args m ρ c main_arg1 (by decide)]

theorem W5_v0_1 (c : Dev nD) : W5 m ρ c (Proc.devRef .tc main_v0_1) = val1 m c := by
  refine Eq.trans ?_ (congrArg (fun a : Vec Ideal S256x1x1 .f32 => shapeCast S256 a shapeCasts_S256x1x1_S256) (W4_v9_1 m ρ c))
  show StableHlo.after hostOps2 (W4 m ρ c) (Proc.devRef .tc main_v0_1) = _
  simp only [hostOps2, TRef.reshape, TRef.unary, TRef.toBuf, TRef.ofBuf, cast_eq]
  after_results_simp <;> rfl

/-- Every weakly fair execution of the idealized kernel ends with its results at `val0`, `val1` and its arguments unchanged. -/
theorem run : θ_run defs (onTc (τ := τ) (main (F := Ideal))) ⟨m, fun _ => 0, ρ⟩ (fun r => ∀ c : Dev nD,
      r.2.mem ((c.tc : Thread nD τ).loc main_v0_0) = val0 m c
      ∧ r.2.mem ((c.tc : Thread nD τ).loc main_v0_1) = val1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v0_0 (by decide))).trans (W5_v0_0 m ρ c),
     (h c _ (mem_uc main_v0_1 (by decide))).trans (W5_v0_1 m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c)⟩)
    (Ends.ends m ρ)

end Cert.KernelIdeal.Values

end
-- ==== Proof.Prologue.lean ====
/- The fused weight the prologue leaves, entry by entry, at real arguments. -/
module

public import proofs.«01_k».proof.Proof.Values
public import proofs.«01_k».proof.Proof.Reals
public import proofs.«01_k».proof.Proof.Consts
public import proofs.«01_k».proof.Proof.Masks

@[expose] public section

set_option maxRecDepth 16384

noncomputable section

namespace Cert.KernelIdeal.Prologue

open Cert.KernelIdeal Cert.KernelIdeal.Gen Cert.KernelIdeal.Values Cert.Reals Cert.Masks Cert.Scalars
open Idealize.ShloMosaic

/-- The mixing matrix of real arrays. -/
def mixOf (wp wl : S64x64.Idx → ℝ) (ws : S64.Idx → ℝ) (wu : S64x64.Idx → ℝ) (sg : S64.Idx → ℝ) : Fin 64 → Fin 64 → ℝ :=
  mixE (fun a b => wp (ix2 a b)) (fun a b => wl (ix2 a b)) (fun a b => wu (ix2 a b))
    (fun a => sg (ix1 a) * Real.exp (ws (ix1 a)))

/-- A vector as a row. -/
def row (v : S64.Idx → ℝ) : S1x64.Idx → ℝ := fun j => v (ix1 (j 1))

/-- A column of channels as a row. -/
def row3 (v : S1x64x1.Idx → ℝ) : S1x64.Idx → ℝ := fun j => v (ix3 0 (j 1) 0)

theorem row_eq (v : S64.Idx → ℝ) : (shapeCast S1x64 (up v : Vec Ideal S64 .f32) shapeCasts_S64_S1x64 : Vec Ideal S1x64 .f32) = up (row v) := by
  funext j
  idx_vars j
  pointwise
  rfl

theorem row3_eq (v : S1x64x1.Idx → ℝ) :
    (shapeCast S1x64 (up v : Vec Ideal S1x64x1 .f32) shapeCasts_S1x64x1_S1x64 : Vec Ideal S1x64 .f32) = up (row3 v) := by
  funext j
  idx_vars j
  pointwise
  rfl

theorem col_eq (v : S256.Idx → ℝ) :
    (shapeCast S256x1 (up v : Vec Ideal S256 .f32) shapeCasts_S256_S256x1 : Vec Ideal S256x1 .f32) = up (fun j => v (ix1 (j 0))) := by
  funext j
  idx_vars j
  pointwise
  rfl

section
variable (loc scale : S1x64x1.Idx → ℝ) (wp wl : S64x64.Idx → ℝ) (ws : S64.Idx → ℝ) (wu : S64x64.Idx → ℝ) (sg : S64.Idx → ℝ)
  (w1 : S256x96.Idx → ℝ) (b1 : S256.Idx → ℝ)

/-- The prologue's product of the factors is the mixing matrix. -/
theorem pay4_eq : (k0_pay4 (F := Ideal) (up (row ws)) (up (row sg)) (up wl) (up wu) (up wp) : Vec Ideal S64x64 .f32)
    = up (fun j => mixOf wp wl ws wu sg (j 0) (j 1)) := by
  funext j
  idx_vars j
  show _ = ((mixOf wp wl ws wu sg j0 j1 : ℝ) : EReal)
  pointwise [k0_pay4, k0_pay3]
  simp only [sgt_word, slt_word, eq_word, Scalar.select_ofBool, up_apply, Ideal.exp_coe, mixOf, mixE, lowerE, upperE,
    coe_sum, EReal.coe_mul, decide_eq_true_eq, apply_ite Real.toEReal, EReal.coe_one, EReal.coe_zero]
  rfl

/-- The mixing matrix with the scale folded in. -/
theorem pay6_eq : (k0_pay6 (F := Ideal) (up (row ws)) (up (row sg)) (up wl) (up wu) (up wp) (up (row3 scale)) : Vec Ideal S64x64 .f32)
    = up (fun j => mixOf wp wl ws wu sg (j 0) (j 1) * scale (ix3 0 (j 1) 0)) := by
  funext j
  unfold k0_pay6 k0_pay5
  rw [pay4_eq]
  idx_vars j
  pointwise
  rfl

/-- The mixed shift. -/
theorem pay7_eq : (k0_pay7 (F := Ideal) (up (row ws)) (up (row sg)) (up wl) (up wu) (up wp) (up (row3 scale)) (up (row3 loc)) : Vec Ideal S64x1 .f32)
    = up (fun j => ∑ l, mixOf wp wl ws wu sg (j 0) l * (scale (ix3 0 l 0) * loc (ix3 0 l 0))) := by
  funext j
  unfold k0_pay7 k0_pay5
  rw [pay4_eq]
  idx_vars j
  show _ = ((∑ l, mixOf wp wl ws wu sg j0 l * (scale (ix3 0 l 0) * loc (ix3 0 l 0)) : ℝ) : EReal)
  pointwise
  simp only [coe_sum, EReal.coe_mul]
  rfl

/-- The network's weights against the history. -/
theorem pay8_eq : (k0_pay8 (F := Ideal) (up w1) : Vec Ideal S256x64 .f32) = up (fun j => w1 (ix2 (j 0) ⟨(j 1 : ℕ), by have : (j 1 : ℕ) < 64 := (j 1).isLt; omega⟩)) := by
  funext j
  idx_vars j
  pointwise [k0_pay8]
  rfl

/-- The network's weights against the lower half of the mixed channels. -/
theorem pay9_eq : (k0_pay9 (F := Ideal) (up w1) : Vec Ideal S256x32 .f32) = up (fun j => w1 (ix2 (j 0) ⟨64 + (j 1 : ℕ), by have : (j 1 : ℕ) < 32 := (j 1).isLt; omega⟩)) := by
  funext j
  idx_vars j
  pointwise [k0_pay9]
  rfl

/-- The lower half of the mixing matrix with the scale folded in. -/
theorem pay10_eq : (k0_pay10 (F := Ideal) (up (row ws)) (up (row sg)) (up wl) (up wu) (up wp) (up (row3 scale)) : Vec Ideal S32x64 .f32)
    = up (fun j => mixOf wp wl ws wu sg ⟨32 + (j 0 : ℕ), by have : (j 0 : ℕ) < 32 := (j 0).isLt; omega⟩ (j 1) * scale (ix3 0 (j 1) 0)) := by
  funext j
  unfold k0_pay10
  rw [pay6_eq]
  idx_vars j
  pointwise
  rfl

/-- The fused weight is put together from these. -/
theorem fused_eq : fused (up loc) (up scale) (up wp) (up wl) (up ws) (up wu) (up sg) (up w1) (up b1)
    = k0_pay1 (F := Ideal) (up (fun j => mixOf wp wl ws wu sg (j 0) (j 1) * scale (ix3 0 (j 1) 0)))
        (up (fun j => ∑ l, mixOf wp wl ws wu sg (j 0) l * (scale (ix3 0 l 0) * loc (ix3 0 l 0))))
        (up (fun j => w1 (ix2 (j 0) ⟨(j 1 : ℕ), by have : (j 1 : ℕ) < 64 := (j 1).isLt; omega⟩)))
        (up (fun j => w1 (ix2 (j 0) ⟨64 + (j 1 : ℕ), by have : (j 1 : ℕ) < 32 := (j 1).isLt; omega⟩)))
        (up (fun j => mixOf wp wl ws wu sg ⟨32 + (j 0 : ℕ), by have : (j 0 : ℕ) < 32 := (j 0).isLt; omega⟩ (j 1) * scale (ix3 0 (j 1) 0)))
        (up (fun j => b1 (ix1 (j 0)))) := by
  rw [← pay6_eq, ← pay7_eq, ← pay8_eq, ← pay9_eq, ← pay10_eq, ← row_eq, ← row_eq, ← row3_eq, ← row3_eq, ← col_eq]
  rfl

/-! ## The fused weight at an entry -/

/-- The mixing rows against the history: nothing. -/
theorem fused_0 (r c : Fin 64) : fused (up loc) (up scale) (up wp) (up wl) (up ws) (up wu) (up sg) (up w1) (up b1)
    (ix2 ⟨r, by omega⟩ ⟨c, by omega⟩) = ((0 : ℝ) : EReal) := by
  rw [fused_eq]
  pointwise [k0_pay1]
  rfl

/-- The mixing rows against the input: the mixing matrix with the scale folded in. -/
theorem fused_1 (r c : Fin 64) : fused (up loc) (up scale) (up wp) (up wl) (up ws) (up wu) (up sg) (up w1) (up b1)
    (ix2 ⟨r, by omega⟩ ⟨64 + c, by omega⟩) = ((mixOf wp wl ws wu sg r c * scale (ix3 0 c 0) : ℝ) : EReal) := by
  rw [fused_eq]
  pointwise [k0_pay1]
  rfl

/-- The mixing rows' constant: the mixed shift. -/
theorem fused_2 (r : Fin 64) : fused (up loc) (up scale) (up wp) (up wl) (up ws) (up wu) (up sg) (up w1) (up b1)
    (ix2 ⟨r, by omega⟩ ⟨128, by omega⟩)
      = ((∑ l, mixOf wp wl ws wu sg r l * (scale (ix3 0 l 0) * loc (ix3 0 l 0)) : ℝ) : EReal) := by
  rw [fused_eq]
  pointwise [k0_pay1]
  rfl

/-- The hidden rows against the history. -/
theorem fused_3 (r : Fin 256) (c : Fin 64) : fused (up loc) (up scale) (up wp) (up wl) (up ws) (up wu) (up sg) (up w1) (up b1)
    (ix2 ⟨64 + r, by omega⟩ ⟨c, by omega⟩) = ((w1 (ix2 r ⟨c, by omega⟩) * (Real.sqrt 2)⁻¹ : ℝ) : EReal) := by
  rw [fused_eq]
  pointwise [k0_pay1]
  rw [Consts.root_f32, EReal.coe_mul]
  rfl

/-- The hidden rows against the input. -/
theorem fused_4 (r : Fin 256) (c : Fin 64) : fused (up loc) (up scale) (up wp) (up wl) (up ws) (up wu) (up sg) (up w1) (up b1)
    (ix2 ⟨64 + r, by omega⟩ ⟨64 + c, by omega⟩)
      = (((∑ k : Fin 32, w1 (ix2 r ⟨64 + k, by omega⟩) * (mixOf wp wl ws wu sg ⟨32 + k, by omega⟩ c * scale (ix3 0 c 0)))
          * (Real.sqrt 2)⁻¹ : ℝ) : EReal) := by
  rw [fused_eq]
  pointwise [k0_pay1]
  rw [Consts.root_f32, EReal.coe_mul, coe_sum]
  simp only [EReal.coe_mul]
  rfl

/-- The hidden rows' constant. -/
theorem fused_5 (r : Fin 256) : fused (up loc) (up scale) (up wp) (up wl) (up ws) (up wu) (up sg) (up w1) (up b1)
    (ix2 ⟨64 + r, by omega⟩ ⟨128, by omega⟩)
      = (((∑ k : Fin 32, w1 (ix2 r ⟨64 + k, by omega⟩)
            * (∑ l, mixOf wp wl ws wu sg ⟨32 + k, by omega⟩ l * (scale (ix3 0 l 0) * loc (ix3 0 l 0))) + b1 (ix1 r))
          * (Real.sqrt 2)⁻¹ : ℝ) : EReal) := by
  rw [fused_eq]
  pointwise [k0_pay1]
  rw [Consts.root_f32, EReal.coe_mul, EReal.coe_add, coe_sum]
  simp only [up_apply, EReal.coe_mul]
  rfl

end

end Cert.KernelIdeal.Prologue

end
-- ==== Proof.MainRead.lean ====
/- The main kernel's item, entry by entry, at real arguments. -/
module

public import proofs.«01_k».proof.Proof.Prologue

@[expose] public section

set_option maxRecDepth 16384

noncomputable section

namespace Cert.KernelIdeal.MainRead

open Cert.KernelIdeal Cert.KernelIdeal.Gen Cert.KernelIdeal.Values Cert.KernelIdeal.Items Cert.KernelIdeal.Prologue Cert.Reals Cert.Scalars
open Idealize.ShloMosaic

/-- The fused product at an index: history, input, constant. -/
theorem prod_at (wc : Vec Ideal S320x129 .bf16) (xa xb : Vec Ideal S1x64x2048 .f32) (r : Fin 320) (g : Fin 2048) :
    (k1_pay6 (F := Ideal) wc xa xb : Vec Ideal S320x2048 .f32) (ix2 r g)
      = ∑ c : Fin 64, wc (ix2 r ⟨c, by omega⟩) * xb (ix3 0 c g) + ∑ c : Fin 64, wc (ix2 r ⟨64 + c, by omega⟩) * xa (ix3 0 c g)
        + wc (ix2 r ⟨128, by omega⟩) := by
  pointwise [k1_pay6, k1_pay1, k1_pay5]
  rw [sum129]
  refine congrArg₂ (· + ·) (congrArg₂ (· + ·) (Finset.sum_congr rfl fun k _ => ?_) (Finset.sum_congr rfl fun k _ => ?_)) ?_
  · rw [dif_pos (show (k : ℕ) < 64 from k.isLt)]
  · rw [dif_neg (show ¬ 64 + (k : ℕ) < 64 by omega), dif_pos (show 64 + (k : ℕ) - 64 < 64 by omega)]
    congr 2
    exact congrArg (fun a => ix3 0 a g) (Fin.ext (by show 64 + (k : ℕ) - 64 = k; omega))
  · rw [dif_neg (by decide), dif_neg (by decide), mul_one]
    rfl

/-- The gates of an item, from its hidden layer. -/
theorem gates_at (wc : Vec Ideal S320x129 .bf16) (w2 : Vec Ideal S64x256 .bf16) (b2 : Vec Ideal S64x1 .bf16) (xa xb : Vec Ideal S1x64x2048 .f32)
    (H : Fin 256 → Fin 2048 → ℝ)
    (hH : ∀ (o : Fin 256) (g : Fin 2048), (k1_pay6 (F := Ideal) wc xa xb : Vec Ideal S320x2048 .f32) (ix2 ⟨64 + o, by omega⟩ g) = ((H o g * (Real.sqrt 2)⁻¹ : ℝ) : EReal))
    (i : Fin 64) (g : Fin 2048) :
    (k1_pay9 (F := Ideal) wc w2 b2 xa xb : Vec Ideal S64x2048 .bf16) (ix2 i g)
      = Ideal.logistic (∑ o : Fin 256, w2 (ix2 i o) * ((geluR (H o g) : ℝ) : EReal) + b2 (ix2 i 0)) := by
  unfold k1_pay9
  generalize k1_pay6 (F := Ideal) wc xa xb = P at hH ⊢
  pointwise [k1_pay2, k1_pay3]
  rw [Consts.half_bf16, tanh_logistic, Consts.root_bf16]
  refine congrArg Ideal.logistic (congrArg₂ (· + ·) (Finset.sum_congr rfl fun o _ => ?_) rfl)
  rw [hH o g]
  exact congrArg _ (gelu_erf (H o g))

/-- An item's upper half, from its mixed channels and its gates. -/
theorem upper_item (p : FVec Ideal S32x2048 .f32) (q : FVec Ideal S64x2048 .bf16) (l : FVec Ideal S32x2048 .bf16) (i : Fin 32) (g : Fin 2048) :
    (k1_pay11 (F := Ideal) p q l : Vec Ideal S1x32x2048 .f32) (ix3 0 i g)
      = Ideal.exp (l (ix2 i g)) * p (ix2 i g) + q (ix2 ⟨32 + i, by omega⟩ g) := by
  pointwise [k1_pay11]

/-- An item's lower half is its mixed channels'. -/
theorem lower_item (p : FVec Ideal S32x2048 .f32) (i : Fin 32) (g : Fin 2048) :
    (k1_pay12 (F := Ideal) p : Vec Ideal S1x32x2048 .f32) (ix3 0 i g) = p (ix2 i g) := by
  pointwise [k1_pay12]

/-- An item's log-determinant. -/
theorem logdet_item (l0 : Ideal .f32) (l : FVec Ideal S32x2048 .bf16) :
    (k1_pay13 (F := Ideal) l0 l : Vec Ideal S1x1x1 .f32) (ix3 0 0 0) = l0 + ∑ i : Fin 32, ∑ g : Fin 2048, l (ix2 i g) := by
  pointwise [k1_pay13]

/-- The upper half of the mixed channels. -/
theorem pay7_at (wc : Vec Ideal S320x129 .bf16) (xa xb : Vec Ideal S1x64x2048 .f32) (i : Fin 32) (g : Fin 2048) :
    (k1_pay7 (F := Ideal) wc xa xb : Vec Ideal S32x2048 .f32) (ix2 i g) = (k1_pay6 (F := Ideal) wc xa xb : Vec Ideal S320x2048 .f32) (ix2 ⟨i, by omega⟩ g) := by
  unfold k1_pay7
  generalize k1_pay6 (F := Ideal) wc xa xb = P
  pointwise

/-- The lower half of the mixed channels. -/
theorem pay8_at (wc : Vec Ideal S320x129 .bf16) (xa xb : Vec Ideal S1x64x2048 .f32) (i : Fin 32) (g : Fin 2048) :
    (k1_pay8 (F := Ideal) wc xa xb : Vec Ideal S32x2048 .f32) (ix2 i g) = (k1_pay6 (F := Ideal) wc xa xb : Vec Ideal S320x2048 .f32) (ix2 ⟨32 + i, by omega⟩ g) := by
  unfold k1_pay8
  generalize k1_pay6 (F := Ideal) wc xa xb = P
  pointwise

/-- The scales are the gates' upper half. -/
theorem pay10_at (wc : Vec Ideal S320x129 .bf16) (w2 : Vec Ideal S64x256 .bf16) (b2 : Vec Ideal S64x1 .bf16) (xa xb : Vec Ideal S1x64x2048 .f32) (i : Fin 32) (g : Fin 2048) :
    (k1_pay10 (F := Ideal) wc w2 b2 xa xb : Vec Ideal S32x2048 .bf16) (ix2 i g)
      = (k1_pay9 (F := Ideal) wc w2 b2 xa xb : Vec Ideal S64x2048 .bf16) (ix2 ⟨i, by omega⟩ g) := by
  unfold k1_pay10
  generalize k1_pay9 (F := Ideal) wc w2 b2 xa xb = P
  pointwise

/-- The constant part of the log-determinant. -/
theorem fusedLd_at (sc : Vec Ideal S1x64x1 .f32) (ws : Vec Ideal S64 .f32) :
    k1_pay4 (F := Ideal) (fusedLd sc ws) = ((2048 : ℝ) : EReal) * ∑ l : Fin 64, Ideal.log (FloatOps.absf (F := Ideal) (φ := .f32) (sc (ix3 0 l 0)))
      + ((2048 : ℝ) : EReal) * ∑ l : Fin 64, ws (ix1 l) := by
  pointwise [k1_pay4, fusedLd, k0_pay2, k0_pay3, k0_pay5]
  rw [Consts.n_f32]
  simp only [Fin.sum_univ_one]
  exact EReal.left_distrib_of_nonneg_of_ne_top (by exact_mod_cast (by norm_num : (0 : ℝ) ≤ 2048)) (EReal.coe_ne_top _) _ _

end Cert.KernelIdeal.MainRead

end
-- ==== Proof.KernelValue.lean ====
/- The idealized kernel's two results at real arguments are the reference's. -/
module

public import proofs.«01_k».proof.Proof.RefValue
public import proofs.«01_k».proof.Proof.MainRead

@[expose] public section

noncomputable section

namespace Cert.KernelIdeal.Equal

open Cert.KernelIdeal Cert.KernelIdeal.Gen Cert.KernelIdeal.Values Cert.KernelIdeal.Arrays Cert.KernelIdeal.Items Cert.KernelIdeal.Prologue
open Cert.KernelIdeal.MainRead Cert.Reals Cert.Scalars
open Idealize.ShloMosaic

section
variable (x he : S256x64x2048.Idx → ℝ) (loc sc : S1x64x1.Idx → ℝ) (wp wl : S64x64.Idx → ℝ) (ws : S64.Idx → ℝ)
  (wu : S64x64.Idx → ℝ) (sg : S64.Idx → ℝ) (w1 : S256x96.Idx → ℝ) (b1 : S256.Idx → ℝ)
  (w2 : Vec Ideal S64x256 .f32) (b2 : Vec Ideal S64 .f32)

/-- The fused product's first rows are the mixed channels. -/
theorem prod_mix (b : Fin 256) (i : Fin 64) (g : Fin 2048) :
    (k1_pay6 (F := Ideal) (fused (up loc) (up sc) (up wp) (up wl) (up ws) (up wu) (up sg) (up w1) (up b1)) (item (up x) b) (item (up he) b) : Vec Ideal S320x2048 .f32) (ix2 ⟨i, by omega⟩ g) = ((ReferenceIdeal.Read.mixedR x loc sc wp wl ws wu sg b g i : ℝ) : EReal) := by
  refine (prod_at _ _ _ ⟨i, by omega⟩ g).trans ?_
  have h0 : ∑ c : Fin 64, (fused (up loc) (up sc) (up wp) (up wl) (up ws) (up wu) (up sg) (up w1) (up b1)) (ix2 ⟨i, by omega⟩ ⟨c, by omega⟩) * item (up he) b (ix3 0 c g) = ((0 : ℝ) : EReal) := by
    refine (Finset.sum_eq_zero fun c _ => ?_).trans EReal.coe_zero.symm
    exact (congrArg (· * _) (fused_0 loc sc wp wl ws wu sg w1 b1 i c)).trans (by rw [EReal.coe_zero, zero_mul])
  have h1 : ∑ c : Fin 64, (fused (up loc) (up sc) (up wp) (up wl) (up ws) (up wu) (up sg) (up w1) (up b1)) (ix2 ⟨i, by omega⟩ ⟨64 + c, by omega⟩) * item (up x) b (ix3 0 c g)
      = ((∑ c : Fin 64, mixOf wp wl ws wu sg i c * sc (ix3 0 c 0) * x (ix3 b c g) : ℝ) : EReal) := by
    rw [coe_sum]
    refine Finset.sum_congr rfl fun c _ => ?_
    exact (congrArg (· * _) (fused_1 loc sc wp wl ws wu sg w1 b1 i c)).trans (EReal.coe_mul _ _).symm
  refine (congrArg₂ (· + ·) (congrArg₂ (· + ·) h0 h1) (fused_2 loc sc wp wl ws wu sg w1 b1 i)).trans ?_
  rw [← EReal.coe_add, ← EReal.coe_add, zero_add]
  exact congrArg _ (mixedE_fold (mixOf wp wl ws wu sg) (fun l => sc (ix3 0 l 0)) (fun l => loc (ix3 0 l 0)) (fun l => x (ix3 b l g)) i)

/-- The fused product's last rows are the hidden layer over the root of two. -/
theorem prod_hidden (b : Fin 256) (o : Fin 256) (g : Fin 2048) :
    (k1_pay6 (F := Ideal) (fused (up loc) (up sc) (up wp) (up wl) (up ws) (up wu) (up sg) (up w1) (up b1)) (item (up x) b) (item (up he) b) : Vec Ideal S320x2048 .f32) (ix2 ⟨64 + o, by omega⟩ g)
      = ((ReferenceIdeal.Read.hiddenR x he loc sc wp wl ws wu sg w1 b1 b g o * (Real.sqrt 2)⁻¹ : ℝ) : EReal) := by
  refine (prod_at _ _ _ ⟨64 + o, by omega⟩ g).trans ?_
  have h0 : ∑ c : Fin 64, (fused (up loc) (up sc) (up wp) (up wl) (up ws) (up wu) (up sg) (up w1) (up b1)) (ix2 ⟨64 + o, by omega⟩ ⟨c, by omega⟩) * item (up he) b (ix3 0 c g)
      = ((∑ c : Fin 64, w1 (ix2 o ⟨c, by omega⟩) * (Real.sqrt 2)⁻¹ * he (ix3 b c g) : ℝ) : EReal) := by
    rw [coe_sum]
    refine Finset.sum_congr rfl fun c _ => ?_
    exact (congrArg (· * _) (fused_3 loc sc wp wl ws wu sg w1 b1 o c)).trans (EReal.coe_mul _ _).symm
  have h1 : ∑ c : Fin 64, (fused (up loc) (up sc) (up wp) (up wl) (up ws) (up wu) (up sg) (up w1) (up b1)) (ix2 ⟨64 + o, by omega⟩ ⟨64 + c, by omega⟩) * item (up x) b (ix3 0 c g)
      = ((∑ c : Fin 64, (∑ k : Fin 32, w1 (ix2 o ⟨64 + k, by omega⟩) * (mixOf wp wl ws wu sg ⟨32 + k, by omega⟩ c * sc (ix3 0 c 0)))
          * (Real.sqrt 2)⁻¹ * x (ix3 b c g) : ℝ) : EReal) := by
    rw [coe_sum]
    refine Finset.sum_congr rfl fun c _ => ?_
    exact (congrArg (· * _) (fused_4 loc sc wp wl ws wu sg w1 b1 o c)).trans (EReal.coe_mul _ _).symm
  refine (congrArg₂ (· + ·) (congrArg₂ (· + ·) h0 h1) (fused_5 loc sc wp wl ws wu sg w1 b1 o)).trans ?_
  rw [← EReal.coe_add, ← EReal.coe_add]
  exact congrArg _ (hiddenE_fold (mixOf wp wl ws wu sg) (fun l => sc (ix3 0 l 0)) (fun l => loc (ix3 0 l 0)) (fun l => x (ix3 b l g))
    (fun o k => w1 (ix2 o k)) (fun o => b1 (ix1 o)) (fun k => he (ix3 b k g)) (Real.sqrt 2)⁻¹ o)

/-- The converted bias at an index. -/
theorem bias_at (i : Fin 64) : cvtB2 b2 (ix2 i 0) = b2 (ix1 i) := by
  pointwise [cvtB2]

/-- The gates of an item are the reference's. -/
theorem gates_eq (b : Fin 256) (i : Fin 64) (g : Fin 2048) :
    (k1_pay9 (F := Ideal) (fused (up loc) (up sc) (up wp) (up wl) (up ws) (up wu) (up sg) (up w1) (up b1)) (cvtW2 w2) (cvtB2 b2) (item (up x) b) (item (up he) b) : Vec Ideal S64x2048 .bf16) (ix2 i g) = (ReferenceIdeal.Stages.gates (up x) (up he) (up loc) (up sc) (up wp) (up wl) (up ws) (up wu) (up sg) (up w1) (up b1) w2 b2) (ix3 b i g) := by
  refine (gates_at (fused (up loc) (up sc) (up wp) (up wl) (up ws) (up wu) (up sg) (up w1) (up b1)) (cvtW2 w2) (cvtB2 b2) (item (up x) b) (item (up he) b) (fun o g => ReferenceIdeal.Read.hiddenR x he loc sc wp wl ws wu sg w1 b1 b g o)
    (fun o g => prod_hidden x he loc sc wp wl ws wu sg w1 b1 b o g) i g).trans ?_
  refine Eq.trans ?_ (ReferenceIdeal.Read.gates_at x he loc sc wp wl ws wu sg w1 b1 w2 b2 b i g).symm
  exact congrArg Ideal.logistic (congrArg₂ (· + ·) (Finset.sum_congr rfl fun o _ => EReal.mul_comm _ _) (bias_at b2 i))

/-- The mixed channels of an item are the reference's. -/
theorem mix_eq (b : Fin 256) (i : Fin 64) (g : Fin 2048) :
    (k1_pay6 (F := Ideal) (fused (up loc) (up sc) (up wp) (up wl) (up ws) (up wu) (up sg) (up w1) (up b1)) (item (up x) b) (item (up he) b) : Vec Ideal S320x2048 .f32) (ix2 ⟨i, by omega⟩ g) = (ReferenceIdeal.Stages.mixed (up x) (up loc) (up sc) (ReferenceIdeal.Stages.weight (up wp) (up wl) (up ws) (up wu) (up sg))) (ix3 b i g) :=
  (prod_mix x he loc sc wp wl ws wu sg w1 b1 b i g).trans
    (congrFun (ReferenceIdeal.Read.mixed_eq x loc sc wp wl ws wu sg) (ix3 b i g)).symm

/-- The first result's upper half is the reference's. -/
theorem flow_lo (b : Fin 256) (i : Fin 32) (g : Fin 2048) :
    flow (up x) (up he) (fused (up loc) (up sc) (up wp) (up wl) (up ws) (up wu) (up sg) (up w1) (up b1)) (cvtW2 w2) (cvtB2 b2) (ix3 b ⟨i, by omega⟩ g) = ReferenceIdeal.Stages.out (ReferenceIdeal.Stages.gates (up x) (up he) (up loc) (up sc) (up wp) (up wl) (up ws) (up wu) (up sg) (up w1) (up b1) w2 b2) (ReferenceIdeal.Stages.mixed (up x) (up loc) (up sc) (ReferenceIdeal.Stages.weight (up wp) (up wl) (up ws) (up wu) (up sg))) (ix3 b ⟨i, by omega⟩ g) := by
  refine Eq.trans (dif_pos i.isLt) (Eq.trans ?_ (ReferenceIdeal.Read.out_lo (ReferenceIdeal.Stages.gates (up x) (up he) (up loc) (up sc) (up wp) (up wl) (up ws) (up wu) (up sg) (up w1) (up b1) w2 b2) (ReferenceIdeal.Stages.mixed (up x) (up loc) (up sc) (ReferenceIdeal.Stages.weight (up wp) (up wl) (up ws) (up wu) (up sg))) b i g).symm)
  refine (upper_item _ _ _ i g).trans ?_
  refine congrArg₂ (· + ·) (congrArg₂ (· * ·) (congrArg Ideal.exp ?_) ?_) ?_
  · exact (pay10_at _ _ _ _ _ i g).trans (gates_eq x he loc sc wp wl ws wu sg w1 b1 w2 b2 b ⟨i, by omega⟩ g)
  · exact (pay7_at _ _ _ i g).trans (mix_eq x he loc sc wp wl ws wu sg w1 b1 b ⟨i, by omega⟩ g)
  · exact gates_eq x he loc sc wp wl ws wu sg w1 b1 w2 b2 b ⟨32 + i, by omega⟩ g

/-- The first result's lower half is the reference's. -/
theorem flow_hi (b : Fin 256) (i : Fin 32) (g : Fin 2048) :
    flow (up x) (up he) (fused (up loc) (up sc) (up wp) (up wl) (up ws) (up wu) (up sg) (up w1) (up b1)) (cvtW2 w2) (cvtB2 b2) (ix3 b ⟨32 + i, by omega⟩ g)
      = ReferenceIdeal.Stages.out (ReferenceIdeal.Stages.gates (up x) (up he) (up loc) (up sc) (up wp) (up wl) (up ws) (up wu) (up sg) (up w1) (up b1) w2 b2) (ReferenceIdeal.Stages.mixed (up x) (up loc) (up sc) (ReferenceIdeal.Stages.weight (up wp) (up wl) (up ws) (up wu) (up sg))) (ix3 b ⟨32 + i, by omega⟩ g) := by
  refine Eq.trans (dif_neg (show ¬ 32 + (i : ℕ) < 32 by omega)) (Eq.trans ?_ (ReferenceIdeal.Read.out_hi (ReferenceIdeal.Stages.gates (up x) (up he) (up loc) (up sc) (up wp) (up wl) (up ws) (up wu) (up sg) (up w1) (up b1) w2 b2) (ReferenceIdeal.Stages.mixed (up x) (up loc) (up sc) (ReferenceIdeal.Stages.weight (up wp) (up wl) (up ws) (up wu) (up sg))) b i g).symm)
  have e : (⟨32 + (i : ℕ) - 32, by omega⟩ : Fin 32) = i := Fin.ext (by show 32 + (i : ℕ) - 32 = i; omega)
  refine (congrArg (fun a : Fin 32 => lower (fused (up loc) (up sc) (up wp) (up wl) (up ws) (up wu) (up sg) (up w1) (up b1)) (item (up x) b) (item (up he) b) (ix3 0 a g)) e).trans ?_
  exact ((lower_item _ i g).trans (pay8_at _ _ _ i g)).trans (mix_eq x he loc sc wp wl ws wu sg w1 b1 b ⟨32 + i, by omega⟩ g)

/-- The first result is the reference's. -/
theorem flow_eq : flow (up x) (up he) (fused (up loc) (up sc) (up wp) (up wl) (up ws) (up wu) (up sg) (up w1) (up b1)) (cvtW2 w2) (cvtB2 b2) = ReferenceIdeal.Stages.out (ReferenceIdeal.Stages.gates (up x) (up he) (up loc) (up sc) (up wp) (up wl) (up ws) (up wu) (up sg) (up w1) (up b1) w2 b2) (ReferenceIdeal.Stages.mixed (up x) (up loc) (up sc) (ReferenceIdeal.Stages.weight (up wp) (up wl) (up ws) (up wu) (up sg))) := by
  funext j
  idx_vars j
  by_cases hi : (j1 : ℕ) < 32
  · exact flow_lo x he loc sc wp wl ws wu sg w1 b1 w2 b2 j0 ⟨j1, hi⟩ j2
  · have e : j1 = ⟨32 + ((j1 : ℕ) - 32), by omega⟩ := Fin.ext (by show (j1 : ℕ) = 32 + ((j1 : ℕ) - 32); omega)
    rw [e]
    exact flow_hi x he loc sc wp wl ws wu sg w1 b1 w2 b2 j0 ⟨(j1 : ℕ) - 32, by omega⟩ j2

/-- The second result's array, without its two unit axes. -/
theorem flat_at (a : Vec Ideal S256x1x1 .f32) (b : Fin 256) : shapeCast S256 a shapeCasts_S256x1x1_S256 (ix1 b) = a (ix3 b 0 0) := by
  pointwise

/-- The second result is the reference's. -/
theorem flowLd_eq : shapeCast S256 (flowLd (up x) (up he) (fused (up loc) (up sc) (up wp) (up wl) (up ws) (up wu) (up sg) (up w1) (up b1)) (cvtW2 w2) (cvtB2 b2) (fusedLd (up sc) (up ws))) shapeCasts_S256x1x1_S256
    = ReferenceIdeal.Stages.ld (ReferenceIdeal.Stages.gates (up x) (up he) (up loc) (up sc) (up wp) (up wl) (up ws) (up wu) (up sg) (up w1) (up b1) w2 b2) (up sc) (up ws) := by
  funext j
  idx_vars j
  refine (flat_at _ j0).trans (Eq.trans ?_ (ReferenceIdeal.Read.ld_at (ReferenceIdeal.Stages.gates (up x) (up he) (up loc) (up sc) (up wp) (up wl) (up ws) (up wu) (up sg) (up w1) (up b1) w2 b2) (up sc) (up ws) j0).symm)
  refine (logdet_item _ _).trans (congrArg₂ (· + ·) (fusedLd_at (up sc) (up ws)) ?_)
  refine Finset.sum_congr rfl fun i _ => Finset.sum_congr rfl fun g _ => ?_
  exact (pay10_at _ _ _ _ _ i g).trans (gates_eq x he loc sc wp wl ws wu sg w1 b1 w2 b2 j0 ⟨i, by omega⟩ g)

end

end Cert.KernelIdeal.Equal

end
-- ==== Proof.Finite.lean ====
/- What the precondition says: the arguments it names are arrays of reals. -/
module

public import proofs.«01_k».proof.Defs
public import proofs.«01_k».proof.Proof.Gen.Pre_finite
public import proofs.«01_k».proof.Proof.Reals
public import proofs.«01_k».proof.Proof.Consts

@[expose] public section

noncomputable section

namespace Cert.Finite

open Cert.Reals
open Idealize.ShloMosaic Idealize.ShloMosaic.TcCoe

/-- An extended real whose absolute value lies below infinity is a real. -/
theorem real_of_abs {x : EReal} (h : max x (-x) < ⊤) : x = ((x.toReal : ℝ) : EReal) := by
  refine (EReal.coe_toReal ?_ ?_).symm
  · rintro rfl; simp at h
  · rintro rfl; simp at h

/-- An array whose absolute values all compare below infinity is an array of reals. -/
theorem up_of {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) :
    ∃ X : s.Idx → ℝ, x = up X := by
  refine ⟨fun i => (x i : EReal).toReal, funext fun i => real_of_abs ?_⟩
  have e : BitVec.ofBool (decide (max (x i : EReal) (-(x i : EReal)) < Ideal.ofBits .f32 0x7F800000#32)) = 1#1 := congrFun h i
  rw [Consts.inf_f32] at e
  by_contra hn
  rw [decide_eq_false hn] at e
  exact absurd e (by decide)

variable {m : (ℓ : Loc Cert.KernelIdeal.nD Cert.KernelIdeal.τ Cert.KernelIdeal.sig) → Buf (Elt Ideal) ℓ}

open Cert.KernelIdeal

/-- Under the precondition the eleven arguments it names are arrays of reals. -/
theorem reals (h : Cert.Pre_KernelIdeal_finite m) (c : Dev nD) :
    (∃ X : S256x64x2048.Idx → ℝ, (m ((c.tc : Thread nD τ).loc main_arg0) : Vec Ideal S256x64x2048 .f32) = up X)
    ∧ (∃ X : S256x64x2048.Idx → ℝ, (m ((c.tc : Thread nD τ).loc main_arg1) : Vec Ideal S256x64x2048 .f32) = up X)
    ∧ (∃ X : S1x64x1.Idx → ℝ, (m ((c.tc : Thread nD τ).loc main_arg2) : Vec Ideal S1x64x1 .f32) = up X)
    ∧ (∃ X : S1x64x1.Idx → ℝ, (m ((c.tc : Thread nD τ).loc main_arg3) : Vec Ideal S1x64x1 .f32) = up X)
    ∧ (∃ X : S64x64.Idx → ℝ, (m ((c.tc : Thread nD τ).loc main_arg4) : Vec Ideal S64x64 .f32) = up X)
    ∧ (∃ X : S64x64.Idx → ℝ, (m ((c.tc : Thread nD τ).loc main_arg5) : Vec Ideal S64x64 .f32) = up X)
    ∧ (∃ X : S64.Idx → ℝ, (m ((c.tc : Thread nD τ).loc main_arg6) : Vec Ideal S64 .f32) = up X)
    ∧ (∃ X : S64x64.Idx → ℝ, (m ((c.tc : Thread nD τ).loc main_arg7) : Vec Ideal S64x64 .f32) = up X)
    ∧ (∃ X : S64.Idx → ℝ, (m ((c.tc : Thread nD τ).loc main_arg8) : Vec Ideal S64 .f32) = up X)
    ∧ (∃ X : S256x96.Idx → ℝ, (m ((c.tc : Thread nD τ).loc main_arg9) : Vec Ideal S256x96 .f32) = up X)
    ∧ (∃ X : S256.Idx → ℝ, (m ((c.tc : Thread nD τ).loc main_arg10) : Vec Ideal S256 .f32) = up X) := by
  obtain ⟨h0, h1, h2, h3, h4, h5, h6, h7, h8, h9, h10⟩ := h c
  exact ⟨up_of _ _ h0, up_of _ _ h1, up_of _ _ h2, up_of _ _ h3, up_of _ _ h4, up_of _ _ h5, up_of _ _ h6, up_of _ _ h7,
    up_of _ _ h8, up_of _ _ h9, up_of _ _ h10⟩

end Cert.Finite

end
-- ==== Proof.Algebraic.lean ====
/- The value claim: at real arguments the idealized kernel and the idealized reference end with the same two results. -/
module

public import proofs.«01_k».proof.Proof.KernelValue
public import proofs.«01_k».proof.Proof.Finite

@[expose] public section

noncomputable section

namespace Cert.Algebraic

open Cert.Reals
open Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- On device `c` the two memories hold the same arguments. -/
def Agree (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)
  ∧ m' ((c.tc : Thread ReferenceIdeal.nD ReferenceIdeal.τ).loc ReferenceIdeal.main_arg6) = m ((c.tc : Thread KernelIdeal.nD KernelIdeal.τ).loc KernelIdeal.main_arg6)
  ∧ m' ((c.tc : Thread ReferenceIdeal.nD ReferenceIdeal.τ).loc ReferenceIdeal.main_arg7) = m ((c.tc : Thread KernelIdeal.nD KernelIdeal.τ).loc KernelIdeal.main_arg7)
  ∧ m' ((c.tc : Thread ReferenceIdeal.nD ReferenceIdeal.τ).loc ReferenceIdeal.main_arg8) = m ((c.tc : Thread KernelIdeal.nD KernelIdeal.τ).loc KernelIdeal.main_arg8)
  ∧ m' ((c.tc : Thread ReferenceIdeal.nD ReferenceIdeal.τ).loc ReferenceIdeal.main_arg9) = m ((c.tc : Thread KernelIdeal.nD KernelIdeal.τ).loc KernelIdeal.main_arg9)
  ∧ m' ((c.tc : Thread ReferenceIdeal.nD ReferenceIdeal.τ).loc ReferenceIdeal.main_arg10) = m ((c.tc : Thread KernelIdeal.nD KernelIdeal.τ).loc KernelIdeal.main_arg10)
  ∧ m' ((c.tc : Thread ReferenceIdeal.nD ReferenceIdeal.τ).loc ReferenceIdeal.main_arg11) = m ((c.tc : Thread KernelIdeal.nD KernelIdeal.τ).loc KernelIdeal.main_arg11)
  ∧ m' ((c.tc : Thread ReferenceIdeal.nD ReferenceIdeal.τ).loc ReferenceIdeal.main_arg12) = m ((c.tc : Thread KernelIdeal.nD KernelIdeal.τ).loc KernelIdeal.main_arg12)

/-- The first result as a function of the arguments. -/
theorem first (y0 : FVec Ideal ReferenceIdeal.S256x64x2048 .f32) (y1 : FVec Ideal ReferenceIdeal.S256x64x2048 .f32) (y2 : FVec Ideal ReferenceIdeal.S1x64x1 .f32) (y3 : FVec Ideal ReferenceIdeal.S1x64x1 .f32) (y4 : FVec Ideal ReferenceIdeal.S64x64 .f32) (y5 : FVec Ideal ReferenceIdeal.S64x64 .f32) (y6 : FVec Ideal ReferenceIdeal.S64 .f32) (y7 : FVec Ideal ReferenceIdeal.S64x64 .f32) (y8 : FVec Ideal ReferenceIdeal.S64 .f32) (y9 : FVec Ideal ReferenceIdeal.S256x96 .f32) (y10 : FVec Ideal ReferenceIdeal.S256 .f32) (y11 : FVec Ideal ReferenceIdeal.S64x256 .f32) (y12 : FVec Ideal ReferenceIdeal.S64 .f32)
    (z0 : FVec Ideal KernelIdeal.S256x64x2048 .f32) (z1 : FVec Ideal KernelIdeal.S256x64x2048 .f32) (z2 : FVec Ideal KernelIdeal.S1x64x1 .f32) (z3 : FVec Ideal KernelIdeal.S1x64x1 .f32) (z4 : FVec Ideal KernelIdeal.S64x64 .f32) (z5 : FVec Ideal KernelIdeal.S64x64 .f32) (z6 : FVec Ideal KernelIdeal.S64 .f32) (z7 : FVec Ideal KernelIdeal.S64x64 .f32) (z8 : FVec Ideal KernelIdeal.S64 .f32) (z9 : FVec Ideal KernelIdeal.S256x96 .f32) (z10 : FVec Ideal KernelIdeal.S256 .f32) (z11 : FVec Ideal KernelIdeal.S64x256 .f32) (z12 : FVec Ideal KernelIdeal.S64 .f32)
    (x0 : KernelIdeal.S256x64x2048.Idx → ℝ) (x1 : KernelIdeal.S256x64x2048.Idx → ℝ) (x2 : KernelIdeal.S1x64x1.Idx → ℝ) (x3 : KernelIdeal.S1x64x1.Idx → ℝ) (x4 : KernelIdeal.S64x64.Idx → ℝ) (x5 : KernelIdeal.S64x64.Idx → ℝ) (x6 : KernelIdeal.S64.Idx → ℝ) (x7 : KernelIdeal.S64x64.Idx → ℝ) (x8 : KernelIdeal.S64.Idx → ℝ) (x9 : KernelIdeal.S256x96.Idx → ℝ) (x10 : KernelIdeal.S256.Idx → ℝ)
    (a0 : y0 = z0) (a1 : y1 = z1) (a2 : y2 = z2) (a3 : y3 = z3) (a4 : y4 = z4) (a5 : y5 = z5) (a6 : y6 = z6) (a7 : y7 = z7) (a8 : y8 = z8) (a9 : y9 = z9) (a10 : y10 = z10) (a11 : y11 = z11) (a12 : y12 = z12)
    (h0 : z0 = up x0) (h1 : z1 = up x1) (h2 : z2 = up x2) (h3 : z3 = up x3) (h4 : z4 = up x4) (h5 : z5 = up x5) (h6 : z6 = up x6) (h7 : z7 = up x7) (h8 : z8 = up x8) (h9 : z9 = up x9) (h10 : z10 = up x10) :
    ReferenceIdeal.Stages.out (ReferenceIdeal.Stages.gates y0 y1 y2 y3 y4 y5 y6 y7 y8 y9 y10 y11 y12) (ReferenceIdeal.Stages.mixed y0 y2 y3 (ReferenceIdeal.Stages.weight y4 y5 y6 y7 y8))
      = KernelIdeal.Arrays.flow z0 z1 (KernelIdeal.Values.fused z2 z3 z4 z5 z6 z7 z8 z9 z10) (KernelIdeal.Values.cvtW2 z11) (KernelIdeal.Values.cvtB2 z12) := by
  subst a0 a1 a2 a3 a4 a5 a6 a7 a8 a9 a10 a11 a12 h0 h1 h2 h3 h4 h5 h6 h7 h8 h9 h10
  exact (KernelIdeal.Equal.flow_eq x0 x1 x2 x3 x4 x5 x6 x7 x8 x9 x10 _ _).symm

/-- The second result as a function of the arguments. -/
theorem second (y0 : FVec Ideal ReferenceIdeal.S256x64x2048 .f32) (y1 : FVec Ideal ReferenceIdeal.S256x64x2048 .f32) (y2 : FVec Ideal ReferenceIdeal.S1x64x1 .f32) (y3 : FVec Ideal ReferenceIdeal.S1x64x1 .f32) (y4 : FVec Ideal ReferenceIdeal.S64x64 .f32) (y5 : FVec Ideal ReferenceIdeal.S64x64 .f32) (y6 : FVec Ideal ReferenceIdeal.S64 .f32) (y7 : FVec Ideal ReferenceIdeal.S64x64 .f32) (y8 : FVec Ideal ReferenceIdeal.S64 .f32) (y9 : FVec Ideal ReferenceIdeal.S256x96 .f32) (y10 : FVec Ideal ReferenceIdeal.S256 .f32) (y11 : FVec Ideal ReferenceIdeal.S64x256 .f32) (y12 : FVec Ideal ReferenceIdeal.S64 .f32)
    (z0 : FVec Ideal KernelIdeal.S256x64x2048 .f32) (z1 : FVec Ideal KernelIdeal.S256x64x2048 .f32) (z2 : FVec Ideal KernelIdeal.S1x64x1 .f32) (z3 : FVec Ideal KernelIdeal.S1x64x1 .f32) (z4 : FVec Ideal KernelIdeal.S64x64 .f32) (z5 : FVec Ideal KernelIdeal.S64x64 .f32) (z6 : FVec Ideal KernelIdeal.S64 .f32) (z7 : FVec Ideal KernelIdeal.S64x64 .f32) (z8 : FVec Ideal KernelIdeal.S64 .f32) (z9 : FVec Ideal KernelIdeal.S256x96 .f32) (z10 : FVec Ideal KernelIdeal.S256 .f32) (z11 : FVec Ideal KernelIdeal.S64x256 .f32) (z12 : FVec Ideal KernelIdeal.S64 .f32)
    (x0 : KernelIdeal.S256x64x2048.Idx → ℝ) (x1 : KernelIdeal.S256x64x2048.Idx → ℝ) (x2 : KernelIdeal.S1x64x1.Idx → ℝ) (x3 : KernelIdeal.S1x64x1.Idx → ℝ) (x4 : KernelIdeal.S64x64.Idx → ℝ) (x5 : KernelIdeal.S64x64.Idx → ℝ) (x6 : KernelIdeal.S64.Idx → ℝ) (x7 : KernelIdeal.S64x64.Idx → ℝ) (x8 : KernelIdeal.S64.Idx → ℝ) (x9 : KernelIdeal.S256x96.Idx → ℝ) (x10 : KernelIdeal.S256.Idx → ℝ)
    (a0 : y0 = z0) (a1 : y1 = z1) (a2 : y2 = z2) (a3 : y3 = z3) (a4 : y4 = z4) (a5 : y5 = z5) (a6 : y6 = z6) (a7 : y7 = z7) (a8 : y8 = z8) (a9 : y9 = z9) (a10 : y10 = z10) (a11 : y11 = z11) (a12 : y12 = z12)
    (h0 : z0 = up x0) (h1 : z1 = up x1) (h2 : z2 = up x2) (h3 : z3 = up x3) (h4 : z4 = up x4) (h5 : z5 = up x5) (h6 : z6 = up x6) (h7 : z7 = up x7) (h8 : z8 = up x8) (h9 : z9 = up x9) (h10 : z10 = up x10) :
    ReferenceIdeal.Stages.ld (ReferenceIdeal.Stages.gates y0 y1 y2 y3 y4 y5 y6 y7 y8 y9 y10 y11 y12) y3 y6
      = shapeCast KernelIdeal.S256 (KernelIdeal.Arrays.flowLd z0 z1 (KernelIdeal.Values.fused z2 z3 z4 z5 z6 z7 z8 z9 z10) (KernelIdeal.Values.cvtW2 z11) (KernelIdeal.Values.cvtB2 z12)
          (KernelIdeal.Values.fusedLd z3 z6)) KernelIdeal.Gen.shapeCasts_S256x1x1_S256 := by
  subst a0 a1 a2 a3 a4 a5 a6 a7 a8 a9 a10 a11 a12 h0 h1 h2 h3 h4 h5 h6 h7 h8 h9 h10
  exact (KernelIdeal.Equal.flowLd_eq x0 x1 x2 x3 x4 x5 x6 x7 x8 x9 x10 _ _).symm

/-- The reference's results are the kernel's. -/
theorem results (c : Dev KernelIdeal.nD) (hp : Cert.Pre_KernelIdeal_finite m) (ha : Agree m m' c) :
    ReferenceIdeal.Value.res_out0 m' c = KernelIdeal.Values.val0 m c ∧ ReferenceIdeal.Value.res_out1 m' c = KernelIdeal.Values.val1 m c := by
  obtain ⟨a0, a1, a2, a3, a4, a5, a6, a7, a8, a9, a10, a11, a12⟩ := ha
  obtain ⟨⟨x0, h0⟩, ⟨x1, h1⟩, ⟨x2, h2⟩, ⟨x3, h3⟩, ⟨x4, h4⟩, ⟨x5, h5⟩, ⟨x6, h6⟩, ⟨x7, h7⟩, ⟨x8, h8⟩, ⟨x9, h9⟩, ⟨x10, h10⟩⟩ :=
    Finite.reals hp c
  exact ⟨(ReferenceIdeal.Stages.res0 m' c).trans (first _ _ _ _ _ _ _ _ _ _ _ _ _ _ _ _ _ _ _ _ _ _ _ _ _ _ x0 x1 x2 x3 x4 x5 x6 x7 x8 x9 x10 a0 a1 a2 a3 a4 a5 a6 a7 a8 a9 a10 a11 a12 h0 h1 h2 h3 h4 h5 h6 h7 h8 h9 h10),
    (ReferenceIdeal.Stages.res1 m' c).trans (second _ _ _ _ _ _ _ _ _ _ _ _ _ _ _ _ _ _ _ _ _ _ _ _ _ _ x0 x1 x2 x3 x4 x5 x6 x7 x8 x9 x10 a0 a1 a2 a3 a4 a5 a6 a7 a8 a9 a10 a11 a12 h0 h1 h2 h3 h4 h5 h6 h7 h8 h9 h10)⟩

/-- The value claim. -/
theorem algebraic : Cert.algebraic_KernelIdeal_ReferenceIdeal_pre_finite := by
  intro m g m' g' hp ha
  refine ⟨KernelIdeal.Values.val0 m, KernelIdeal.Values.val1 m, KernelIdeal.Values.run m g, ?_⟩
  refine (θ_run ReferenceIdeal.defs _ _).mono (fun r h c => ?_) (ReferenceIdeal.Value.run (F := Ideal) m' g')
  obtain ⟨r0, r1⟩ := results m m' c hp (ha c)
  exact ⟨(h c).1.trans r0, (h c).2.1.trans r1, (h c).2.2⟩

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Algebraic
public import Idealize.ShloMosaic.Adequacy
public import Idealize.ShloMosaic.Init

@[expose] public section

noncomputable section

namespace Cert.Proof

open Idealize.ShloMosaic Idealize.ShloMosaic.TcCoe Idealize.SL.Sem

/-- The kernel runs to quiescence and leaves its arguments as they were. -/
theorem frame_p : Cert.quiescent_Kernel := fun m ρ _ => Cert.Kernel.Gen.frame m ρ

/-- The idealized kernel runs to quiescence and leaves its arguments as they were. -/
theorem frame_pi : Cert.quiescent_KernelIdeal := fun m ρ _ => Cert.KernelIdeal.Gen.frame m ρ

/-- The reference runs to quiescence and leaves its arguments as they were. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The idealized kernel's frame, under the precondition too. -/
theorem frame_pi_finite : Cert.quiescent_KernelIdeal_pre_finite := fun m ρ _ => Cert.KernelIdeal.Gen.frame m ρ

/-- The reference's frame, under the precondition too. -/
theorem frame_ri_finite : Cert.quiescent_ReferenceIdeal_pre_finite := fun m ρ _ => frame_ri m ρ trivial

/-- The name `inv_sqrt2` denotes the reciprocal of the root of two, for the f32 and for the bf16 constant. -/
theorem preserves : Cert.preserves_Kernel_KernelIdeal :=
  ⟨IdealRules.named_const.statement Cert.KernelIdeal.κ "inv_sqrt2" .f32 0x3F3504F3#32 (((Real.sqrt 2)⁻¹ : ℝ) : EReal) rfl,
   IdealRules.named_const.statement Cert.KernelIdeal.κ "inv_sqrt2" .bf16 0x3F35#16 (((Real.sqrt 2)⁻¹ : ℝ) : EReal) rfl⟩

/-- Every claim of the certificate. -/
theorem claim : Cert.Claim :=
  ⟨Cert.Kernel.Gen.facts, Cert.KernelIdeal.Gen.facts, Cert.ReferenceIdeal.Gen.facts, Cert.Pre_finite.Gen.facts,
    frame_p, frame_pi, frame_pi_finite, frame_ri, frame_ri_finite, preserves, Cert.Algebraic.algebraic⟩

end Cert.Proof

end
